-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12288x1x16384 : Shape := ⟨3, ![12288, 1, 16384]⟩
abbrev S16384x2560 : Shape := ⟨2, ![16384, 2560]⟩
abbrev S64x5120 : Shape := ⟨2, ![64, 5120]⟩
abbrev S512x5120 : Shape := ⟨2, ![512, 5120]⟩
abbrev S12288x16384 : Shape := ⟨2, ![12288, 16384]⟩
abbrev S12288x5120 : Shape := ⟨2, ![12288, 5120]⟩
abbrev S256x16384 : Shape := ⟨2, ![256, 16384]⟩
abbrev S16384x256 : Shape := ⟨2, ![16384, 256]⟩
abbrev S64x512 : Shape := ⟨2, ![64, 512]⟩
abbrev S512x512 : Shape := ⟨2, ![512, 512]⟩
abbrev S256x512 : Shape := ⟨2, ![256, 512]⟩
abbrev S16384x512 : Shape := ⟨2, ![16384, 512]⟩
abbrev S32x512 : Shape := ⟨2, ![32, 512]⟩
abbrev S1x512 : Shape := ⟨2, ![1, 512]⟩
abbrev S32x128 : Shape := ⟨2, ![32, 128]⟩
abbrev S8x128 : Shape := ⟨2, ![8, 128]⟩
abbrev S8x128x1 : Shape := ⟨3, ![8, 128, 1]⟩
abbrev S1x128 : Shape := ⟨2, ![1, 128]⟩

abbrev nBuf : Space → Nat
  | .hbm => 8
  | .vmem => 15
  | .smem => 0
  | _ => 0

abbrev bufTy : (tb : Table) → Fin (tcTables nBuf tb) → BufTy
  | .hbm, ⟨0, _⟩ => ⟨S12288x1x16384, .bf16⟩
  | .hbm, ⟨1, _⟩ => ⟨S16384x2560, .i8⟩
  | .hbm, ⟨2, _⟩ => ⟨S64x5120, .f16⟩
  | .hbm, ⟨3, _⟩ => ⟨S64x5120, .f16⟩
  | .hbm, ⟨4, _⟩ => ⟨S512x5120, .i8⟩
  | .hbm, ⟨5, _⟩ => ⟨S512x5120, .i8⟩
  | .hbm, ⟨6, _⟩ => ⟨S12288x16384, .bf16⟩
  | .hbm, ⟨7, _⟩ => ⟨S12288x5120, .bf16⟩
  | .local _ .vmem, ⟨0, _⟩ => ⟨S256x16384, .bf16⟩
  | .local _ .vmem, ⟨1, _⟩ => ⟨S256x16384, .bf16⟩
  | .local _ .vmem, ⟨2, _⟩ => ⟨S16384x256, .i8⟩
  | .local _ .vmem, ⟨3, _⟩ => ⟨S16384x256, .i8⟩
  | .local _ .vmem, ⟨4, _⟩ => ⟨S64x512, .f16⟩
  | .local _ .vmem, ⟨5, _⟩ => ⟨S64x512, .f16⟩
  | .local _ .vmem, ⟨6, _⟩ => ⟨S64x512, .f16⟩
  | .local _ .vmem, ⟨7, _⟩ => ⟨S64x512, .f16⟩
  | .local _ .vmem, ⟨8, _⟩ => ⟨S512x512, .i8⟩
  | .local _ .vmem, ⟨9, _⟩ => ⟨S512x512, .i8⟩
  | .local _ .vmem, ⟨10, _⟩ => ⟨S512x512, .i8⟩
  | .local _ .vmem, ⟨11, _⟩ => ⟨S512x512, .i8⟩
  | .local _ .vmem, ⟨12, _⟩ => ⟨S256x512, .bf16⟩
  | .local _ .vmem, ⟨13, _⟩ => ⟨S256x512, .bf16⟩
  | .local _ .vmem, ⟨14, _⟩ => ⟨S16384x512, .bf16⟩
  | _, _ => ⟨S12288x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![10, 48], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v9 : BitVec 32 := Scalar.addi c0_i32_6 c16_i32
  let c1_i32 : BitVec 32 := 1#32
  ⟨c0_i32_6, v9, c1_i32⟩
def k0_off1 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c32_i32 : BitVec 32 := 32#32
  let v10 : BitVec 32 := Scalar.muli arg10 c32_i32
  let v11 : Index := Scalar.indexCast v10
  let c0_8 : Index := 0#32
  ![v11.toNat, 0]
def k0_off2 (k0_t1 : Fin k0_t1_loop.trips) (c0_i32_11 : BitVec 32) : Fin 2 → Nat :=
  let c0_i32_6 : BitVec 32 := 0#32
  let c1_i32 : BitVec 32 := 1#32
  let arg10 : BitVec 32 := Scf.iv c0_i32_6 c1_i32 k0_t1
  let c4_i32 : BitVec 32 := 4#32
  let v20 : BitVec 32 := Scalar.muli arg10 c4_i32
  let v21 : BitVec 32 := Scalar.addi v20 c0_i32_11
  let v22 : Index := Scalar.indexCast v21
  let c0_12 : Index := 0#32
  ![v22.toNat, 0]
def k0_off3 (k0_t1 : Fin k0_t1_loop.trips) (c0_i32_17 : BitVec 32) : Fin 2 → Nat :=
  let c0_i32_6 : BitVec 32 := 0#32
  let c1_i32 : BitVec 32 := 1#32
  let arg10 : BitVec 32 := Scf.iv c0_i32_6 c1_i32 k0_t1
  let c4_i32_16 : BitVec 32 := 4#32
  let v34 : BitVec 32 := Scalar.muli arg10 c4_i32_16
  let c256_i32 : BitVec 32 := 256#32
  let v35 : BitVec 32 := Scalar.muli v34 c256_i32
  let v36 : BitVec 32 := Scalar.addi v35 c0_i32_17
  let v37 : Index := Scalar.indexCast v36
  let c0_18 : Index := 0#32
  ![v37.toNat, 0]
def k0_off4 (k0_t1 : Fin k0_t1_loop.trips) (c0_i32_17 : BitVec 32) : Fin 2 → Nat :=
  let c0_i32_6 : BitVec 32 := 0#32
  let c1_i32 : BitVec 32 := 1#32
  let arg10 : BitVec 32 := Scf.iv c0_i32_6 c1_i32 k0_t1
  let c4_i32_16 : BitVec 32 := 4#32
  let v34 : BitVec 32 := Scalar.muli arg10 c4_i32_16
  let c256_i32 : BitVec 32 := 256#32
  let v35 : BitVec 32 := Scalar.muli v34 c256_i32
  let v36 : BitVec 32 := Scalar.addi v35 c0_i32_17
  let v70 : Index := Scalar.indexCast v36
  let c0_24 : Index := 0#32
  ![v70.toNat, 0]
def k0_off5 (k0_t1 : Fin k0_t1_loop.trips) (c0_i32_27 : BitVec 32) : Fin 2 → Nat :=
  let c0_i32_6 : BitVec 32 := 0#32
  let c1_i32 : BitVec 32 := 1#32
  let arg10 : BitVec 32 := Scf.iv c0_i32_6 c1_i32 k0_t1
  let c4_i32_25 : BitVec 32 := 4#32
  let v74 : BitVec 32 := Scalar.muli arg10 c4_i32_25
  let c256_i32_26 : BitVec 32 := 256#32
  let v75 : BitVec 32 := Scalar.muli v74 c256_i32_26
  let v76 : BitVec 32 := Scalar.addi v75 c0_i32_27
  let v110 : Index := Scalar.indexCast v76
  let c128 : Index := 128#32
  ![v110.toNat, 128]
def k0_off6 (k0_t1 : Fin k0_t1_loop.trips) (c0_i32_37 : BitVec 32) : Fin 2 → Nat :=
  let c0_i32_6 : BitVec 32 := 0#32
  let c1_i32 : BitVec 32 := 1#32
  let arg10 : BitVec 32 := Scf.iv c0_i32_6 c1_i32 k0_t1
  let c4_i32_35 : BitVec 32 := 4#32
  let v114 : BitVec 32 := Scalar.muli arg10 c4_i32_35
  let c256_i32_36 : BitVec 32 := 256#32
  let v115 : BitVec 32 := Scalar.muli v114 c256_i32_36
  let v116 : BitVec 32 := Scalar.addi v115 c0_i32_37
  let v117 : Index := Scalar.indexCast v116
  let c128_38 : Index := 128#32
  ![v117.toNat, 128]
def k0_off7 (k0_t1 : Fin k0_t1_loop.trips) (c0_i32_37 : BitVec 32) : Fin 2 → Nat :=
  let c0_i32_6 : BitVec 32 := 0#32
  let c1_i32 : BitVec 32 := 1#32
  let arg10 : BitVec 32 := Scf.iv c0_i32_6 c1_i32 k0_t1
  let c4_i32_35 : BitVec 32 := 4#32
  let v114 : BitVec 32 := Scalar.muli arg10 c4_i32_35
  let c256_i32_36 : BitVec 32 := 256#32
  let v115 : BitVec 32 := Scalar.muli v114 c256_i32_36
  let v116 : BitVec 32 := Scalar.addi v115 c0_i32_37
  let v150 : Index := Scalar.indexCast v116
  let c256 : Index := 256#32
  ![v150.toNat, 256]
def k0_off8 (k0_t1 : Fin k0_t1_loop.trips) (c0_i32_48 : BitVec 32) : Fin 2 → Nat :=
  let c0_i32_6 : BitVec 32 := 0#32
  let c1_i32 : BitVec 32 := 1#32
  let arg10 : BitVec 32 := Scf.iv c0_i32_6 c1_i32 k0_t1
  let c4_i32_46 : BitVec 32 := 4#32
  let v154 : BitVec 32 := Scalar.muli arg10 c4_i32_46
  let c256_i32_47 : BitVec 32 := 256#32
  let v155 : BitVec 32 := Scalar.muli v154 c256_i32_47
  let v156 : BitVec 32 := Scalar.addi v155 c0_i32_48
  let v190 : Index := Scalar.indexCast v156
  let c384 : Index := 384#32
  ![v190.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16384x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S12288x1x16384 : Shape := ⟨3, ![12288, 1, 16384]⟩
abbrev S16384x2560 : Shape := ⟨2, ![16384, 2560]⟩
abbrev S64x5120 : Shape := ⟨2, ![64, 5120]⟩
abbrev S512x5120 : Shape := ⟨2, ![512, 5120]⟩
abbrev S64x8x32x2560 : Shape := ⟨4, ![64, 8, 32, 2560]⟩
abbrev S_ : Shape := ⟨0, ![]⟩
abbrev S64x1x5120 : Shape := ⟨3, ![64, 1, 5120]⟩
abbrev S64x8x5120 : Shape := ⟨3, ![64, 8, 5120]⟩
abbrev S64x8x2560 : Shape := ⟨3, ![64, 8, 2560]⟩
abbrev S64x8x1x2560 : Shape := ⟨4, ![64, 8, 1, 2560]⟩
abbrev S12288x1x2560 : Shape := ⟨3, ![12288, 1, 2560]⟩
abbrev S12288x1x2560x1 : Shape := ⟨4, ![12288, 1, 2560, 1]⟩
abbrev S12288x1x2560x2 : Shape := ⟨4, ![12288, 1, 2560, 2]⟩
abbrev S12288x5120 : Shape := ⟨2, ![12288, 5120]⟩

abbrev nBuf : Space → Nat
  | .hbm => 57
  | .vmem => 4
  | .smem => 0
  | _ => 0

abbrev bufTy : (tb : Table) → Fin (tcTables nBuf tb) → BufTy
  | .hbm, ⟨0, _⟩ => ⟨S12288x1x16384, .bf16⟩
  | .hbm, ⟨1, _⟩ => ⟨S16384x2560, .i8⟩
  | .hbm, ⟨2, _⟩ => ⟨S64x5120, .f16⟩
  | .hbm, ⟨3, _⟩ => ⟨S64x5120, .f16⟩
  | .hbm, ⟨4, _⟩ => ⟨S512x5120, .i8⟩
  | .hbm, ⟨5, _⟩ => ⟨S512x5120, .i8⟩
  | .hbm, ⟨6, _⟩ => ⟨S64x8x32x2560, .i8⟩
  | .hbm, ⟨7, _⟩ => ⟨S64x8x32x2560, .i32⟩
  | .hbm, ⟨8, _⟩ => ⟨S_, .i32⟩
  | .hbm, ⟨9, _⟩ => ⟨S64x8x32x2560, .i32⟩
  | .hbm, ⟨10, _⟩ => ⟨S64x8x32x2560, .i32⟩
  | .hbm, ⟨11, _⟩ => ⟨S64x8x32x2560, .f32⟩
  | .hbm, ⟨12, _⟩ => ⟨S_, .i32⟩
  | .hbm, ⟨13, _⟩ => ⟨S64x8x32x2560, .i32⟩
  | .hbm, ⟨14, _⟩ => ⟨S64x8x32x2560, .i32⟩
  | .hbm, ⟨15, _⟩ => ⟨S64x8x32x2560, .f32⟩
  | .hbm, ⟨16, _⟩ => ⟨S64x5120, .f32⟩
  | .hbm, ⟨17, _⟩ => ⟨S64x5120, .f32⟩
  | .hbm, ⟨18, _⟩ => ⟨S512x5120, .i32⟩
  | .hbm, ⟨19, _⟩ => ⟨S512x5120, .f32⟩
  | .hbm, ⟨20, _⟩ => ⟨S512x5120, .i32⟩
  | .hbm, ⟨21, _⟩ => ⟨S512x5120, .f32⟩
  | .hbm, ⟨22, _⟩ => ⟨S64x1x5120, .f32⟩
  | .hbm, ⟨23, _⟩ => ⟨S64x8x5120, .f32⟩
  | .hbm, ⟨24, _⟩ => ⟨S64x8x5120, .f32⟩
  | .hbm, ⟨25, _⟩ => ⟨S64x8x5120, .f32⟩
  | .hbm, ⟨26, _⟩ => ⟨S64x1x5120, .f32⟩
  | .hbm, ⟨27, _⟩ => ⟨S64x8x5120, .f32⟩
  | .hbm, ⟨28, _⟩ => ⟨S64x8x5120, .f32⟩
  | .hbm, ⟨29, _⟩ => ⟨S64x8x5120, .f32⟩
  | .hbm, ⟨30, _⟩ => ⟨S64x8x2560, .f32⟩
  | .hbm, ⟨31, _⟩ => ⟨S64x8x2560, .f32⟩
  | .hbm, ⟨32, _⟩ => ⟨S64x8x1x2560, .f32⟩
  | .hbm, ⟨33, _⟩ => ⟨S64x8x32x2560, .f32⟩
  | .hbm, ⟨34, _⟩ => ⟨S64x8x32x2560, .f32⟩
  | .hbm, ⟨35, _⟩ => ⟨S64x8x1x2560, .f32⟩
  | .hbm, ⟨36, _⟩ => ⟨S64x8x32x2560, .f32⟩
  | .hbm, ⟨37, _⟩ => ⟨S64x8x32x2560, .f32⟩
  | .hbm, ⟨38, _⟩ => ⟨S64x8x32x2560, .bf16⟩
  | .hbm, ⟨39, _⟩ => ⟨S16384x2560, .bf16⟩
  | .hbm, ⟨40, _⟩ => ⟨S64x8x2560, .f32⟩
  | .hbm, ⟨41, _⟩ => ⟨S64x8x2560, .f32⟩
  | .hbm, ⟨42, _⟩ => ⟨S64x8x1x2560, .f32⟩
  | .hbm, ⟨43, _⟩ => ⟨S64x8x32x2560, .f32⟩
  | .hbm, ⟨44, _⟩ => ⟨S64x8x32x2560, .f32⟩
  | .hbm, ⟨45, _⟩ => ⟨S64x8x1x2560, .f32⟩
  | .hbm, ⟨46, _⟩ => ⟨S64x8x32x2560, .f32⟩
  | .hbm, ⟨47, _⟩ => ⟨S64x8x32x2560, .f32⟩
  | .hbm, ⟨48, _⟩ => ⟨S64x8x32x2560, .bf16⟩
  | .hbm, ⟨49, _⟩ => ⟨S16384x2560, .bf16⟩
  | .hbm, ⟨50, _⟩ => ⟨S12288x1x2560, .f32⟩
  | .hbm, ⟨51, _⟩ => ⟨S12288x1x2560, .f32⟩
  | .hbm, ⟨52, _⟩ => ⟨S12288x1x2560x1, .f32⟩
  | .hbm, ⟨53, _⟩ => ⟨S12288x1x2560x1, .f32⟩
  | .hbm, ⟨54, _⟩ => ⟨S12288x1x2560x2, .f32⟩
  | .hbm, ⟨55, _⟩ => ⟨S12288x5120, .f32⟩
  | .hbm, ⟨56, _⟩ => ⟨S12288x5120, .bf16⟩
  | .local _ .vmem, ⟨0, _⟩ => ⟨S64x5120, .f16⟩
  | .local _ .vmem, ⟨1, _⟩ => ⟨S64x5120, .f16⟩
  | .local _ .vmem, ⟨2, _⟩ => ⟨S64x5120, .f32⟩
  | .local _ .vmem, ⟨3, _⟩ => ⟨S64x5120, .f32⟩
  | _, _ => ⟨S12288x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x5120 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x5120 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/-
  ONE TILE of the dequantized weight. The kernel fills its `[16384, 512]` weight scratch in tiles of 32 rows by 128
  columns. A tile's 4-bit codes come packed two to a byte along the columns: byte `l / 2` of a row holds the codes of
  columns `l` and `l + 1`, the even column's in the low half. The kernel reads four byte rows as one row of 32-bit
  words, gathers word `64·half + l / 2` to lane `l`, shifts it right by `4·(l % 2)`, keeps the low four bits of every
  byte and reads the words as bytes again.

  Here that sequence of operations is given a name (`codes`), and the tile computed from it as well (`tile`), and both
  are read at an index: `codes_apply`, `tile_apply`.
-/
module

public import proofs.«01_k».proof.Proof.Gen.KernelIdeal
public import Idealize.ShloMosaic.Lib.BitcastFour
public import Idealize.ShloMosaic.Lib.Pipeline.Value

@[expose] public section

set_option maxRecDepth 16384

noncomputable section

namespace Cert.Q4

open Cert.KernelIdeal Cert.KernelIdeal.Gen Idealize.ShloMosaic Idealize.ShloMosaic.ValueIdx

variable {F : FTy → Type} [FloatOps F]

/-- The code of column parity `odd` in byte `b`: its low four bits for an even column, its high four for an odd one. -/
def code (b : BitVec 8) (odd : Nat) : BitVec 8 := (b >>> (4 * odd)) &&& 15#8

/-- The lane each lane of the words is gathered from: `h` plus half the lane, with the wrap-around of a negative lane
    number. -/
def laneIdx (h : BitVec 32) : IVec S8x128 32 :=
  select
    (cmpi .slt (addi (broadcast S8x128 h) (shrsi (iota .tc S8x128 32 [1] iota_S8x128_d1_w32) (broadcast S8x128 1#32)))
      (broadcast S8x128 0#32))
    (addi (addi (broadcast S8x128 h) (shrsi (iota .tc S8x128 32 [1] iota_S8x128_d1_w32) (broadcast S8x128 1#32)))
      (broadcast S8x128 128#32))
    (addi (broadcast S8x128 h) (shrsi (iota .tc S8x128 32 [1] iota_S8x128_d1_w32) (broadcast S8x128 1#32)))

/-- The amount each lane is shifted by: four times its parity. -/
def laneShift : IVec S8x128 32 :=
  muli (andi (iota .tc S8x128 32 [1] iota_S8x128_d1_w32) (broadcast S8x128 1#32)) (broadcast S8x128 4#32)

/-- The kernel's unpacking of a tile of packed bytes `v`, from lane `h` on. -/
def codes (h : BitVec 32) (v : Vec F S32x128 .i8) : IVec S32x128 8 :=
  bitcast S32x128 8
    (andi
      (shrui
        (dynamicGather 1 (bitcast S8x128 32 v bitcasts_S32x128_w8_S8x128_w32)
          (shapeCast S8x128 (shapeCast S8x128x1 (laneIdx h) shapeCasts_S8x128_S8x128x1) shapeCasts_S8x128x1_S8x128))
        laneShift)
      (broadcast S8x128 252645135#32))
    bitcasts_S8x128_w32_S32x128_w8

/-- The scale (or offset) of one 32-row block: the super-block's half-precision factor `d` times row `r` of the eight-bit
    sub-block factors `v`. -/
def scaleRow (r : Fin 2 → Nat) (hr : S32x512.Slices r S1x512) (v : Vec F S32x512 .i8) (d : Vec F S1x512 .f16) :
    FVec F S1x512 .f32 :=
  mulf (extf .f32 d bitsLt_f16_f32) (extractStridedSlice S1x512 r (sitofp .f32 (extui 32 v natLt_8_32)) hr)

/-- The tile the kernel stores: codes times scale minus offset, rounded to bf16. -/
def tile (h : BitVec 32) (o : Fin 2 → Nat) (ho : S1x512.Slices o S1x128) (s z : FVec F S1x512 .f32)
    (v : Vec F S32x128 .i8) : FVec F S32x128 .bf16 :=
  shapeCast S32x128
    (truncf .bf16
      (subf
        (mulf (sitofp .f32 (extsi 32 (codes h v) natLt_8_32))
          (broadcastTo S32x128 (extractStridedSlice S1x128 o s ho) broadcasts_S1x128_S32x128))
        (broadcastTo S32x128 (extractStridedSlice S1x128 o z ho) broadcasts_S1x128_S32x128))
      bitsLt_bf16_f32)
    shapeCasts_S32x128_S32x128

/-- The gathered lane of lane `l` is `l / 2` in the first half, `64 + l / 2` in the second. -/
theorem laneIdx_apply (half : Fin 2) (r : Fin 8) (l : Fin 128) :
    (laneIdx (BitVec.ofNat 32 (64 * half.val)) (ix2 r l)).toNat % 128 = 64 * half.val + l.val / 2 := by
  have e : laneIdx (BitVec.ofNat 32 (64 * half.val)) (ix2 r l) = laneIdx (BitVec.ofNat 32 (64 * half.val)) (ix2 0 l) := rfl
  rw [e]
  clear e r
  revert half l
  decide +kernel

/-- The shift of lane `l` is four times its parity. -/
theorem laneShift_apply (r : Fin 8) (l : Fin 128) : (laneShift (ix2 r l)).toNat = 4 * (l.val % 2) := by
  have e : laneShift (ix2 r l) = laneShift (ix2 0 l) := rfl
  rw [e]
  clear e r
  revert l
  decide +kernel

/-- The mask keeps the low four bits of every byte. -/
theorem mask_getLsbD : ∀ p : Fin 32, (252645135#32 : BitVec 32).getLsbD p.val = decide (p.val % 8 < 4) := by decide +kernel

/-- Bit `q` of the byte mask. -/
theorem fifteen_getLsbD : ∀ q : Fin 8, (15#8 : BitVec 8).getLsbD q.val = decide (q.val < 4) := by decide +kernel

/-- THE UNPACKED CODE at row `r`, column `l`: the code of parity `l % 2` in byte `64·half + l / 2` of the row. -/
theorem codes_apply (half : Fin 2) (v : Vec F S32x128 .i8) (r : Fin 32) (l : Fin 128) :
    codes (F := F) (BitVec.ofNat 32 (64 * half.val)) v (ix2 r l)
      = code (v (ix2 r ⟨64 * half.val + l.val / 2, by omega⟩)) (l.val % 2) := by
  apply BitVec.eq_of_getLsbD_eq
  intro q hq
  unfold codes
  rw [bitcast_getLsbD _ _ _ q hq (by decide)]
  have hsrc : ∀ hh, bitcasts_S8x128_w32_S32x128_w8.srcIdx (ix2 r l) ((S32x128.row (ix2 r l) * 8 + q) / 32) hh
      = ix2 (⟨r.val / 4, by omega⟩ : Fin 8) l := by
    intro hh
    funext a
    apply Fin.ext
    match a with
    | ⟨0, _⟩ =>
      refine (Shape.Bitcasts.srcIdx_row _ _ _ _ ⟨0, Nat.zero_lt_two⟩ rfl).trans ?_
      show (r.val * 8 + q) / 32 = r.val / 4
      omega
    | ⟨1, _⟩ => exact Shape.Bitcasts.srcIdx_other _ _ _ _ ⟨1, Nat.one_lt_two⟩ (by show ¬ 1 + 2 = 2; omega)
  rw [hsrc]
  have hrow : (S32x128.row (ix2 r l) * 8 + q) % 32 = 8 * (r.val % 4) + q := by
    show (r.val * 8 + q) % 32 = _
    omega
  rw [hrow, shapeCast_shapeCast]
  show (((IntOp.shrui .vector (dynamicGather 1 _ (laneIdx _) (ix2 ⟨r.val / 4, _⟩ l)) (laneShift (ix2 ⟨r.val / 4, _⟩ l)))
    &&& 252645135#32 : BitVec 32)).getLsbD _ = _
  have hm := mask_getLsbD ⟨8 * (r.val % 4) + q, by omega⟩
  dsimp only at hm
  have hf := fifteen_getLsbD ⟨q, hq⟩
  dsimp only at hf
  rw [BitVec.getLsbD_and, hm]
  unfold code
  rw [BitVec.getLsbD_and, hf, show (8 * (r.val % 4) + q) % 8 = q by omega]
  by_cases h4 : q < 4
  · simp only [h4, decide_true, Bool.and_true]
    unfold IntOp.shrui
    rw [if_pos (by rw [laneShift_apply]; omega), BitVec.ushiftRight_eq', laneShift_apply, BitVec.getLsbD_ushiftRight,
      BitVec.getLsbD_ushiftRight]
    have hg : (dynamicGather 1 (bitcast S8x128 32 v bitcasts_S32x128_w8_S8x128_w32)
          (laneIdx (BitVec.ofNat 32 (64 * half.val))) (ix2 (⟨r.val / 4, by omega⟩ : Fin 8) l) : BitVec 32)
        = bitcast S8x128 32 v bitcasts_S32x128_w8_S8x128_w32
            (ix2 (⟨r.val / 4, by omega⟩ : Fin 8) (⟨64 * half.val + l.val / 2, by omega⟩ : Fin 128)) := by
      unfold dynamicGather
      refine congrArg (bitcast S8x128 32 v bitcasts_S32x128_w8_S8x128_w32) ?_
      funext a
      match a with
      | ⟨0, _⟩ => exact if_neg fun h => absurd (congrArg Fin.val h : (0 : Nat) = 1) (by decide)
      | ⟨1, _⟩ => exact (if_pos rfl).trans (Fin.ext (laneIdx_apply half ⟨r.val / 4, by omega⟩ l))
    rw [hg, bitcast_8_32_getLsbD_ix2 (R := 32) (r := 8) (n := 128) v bitcasts_S32x128_w8_S8x128_w32 ⟨r.val / 4, by omega⟩
      ⟨64 * half.val + l.val / 2, by omega⟩ _ (by omega) r (by dsimp only; omega)]
    congr 1
    omega
  · simp [h4]

/-- A code is below 16, so widening it with its sign is widening it with zeros. -/
theorem code_signExtend : ∀ (b : BitVec 8) (odd : Fin 2), (code b odd.val).signExtend 32 = (code b odd.val).setWidth 32 := by
  decide +kernel

/-- THE TILE at row `r`, column `l`: the code times the column's scale minus the column's offset, rounded. -/
theorem tile_apply (half : Fin 2) (o : Fin 2 → Nat) (ho : S1x512.Slices o S1x128) (s z : FVec F S1x512 .f32)
    (v : Vec F S32x128 .i8) (r : Fin 32) (l : Fin 128) (L : Fin 512) (hL : L.val = o 1 + l.val) :
    tile (F := F) (BitVec.ofNat 32 (64 * half.val)) o ho s z v (ix2 r l)
      = FloatOps.truncf .bf16 bitsLt_bf16_f32 (FloatOps.subf
          (FloatOps.mulf
            (FloatOps.sitofp .f32 ((code (v (ix2 r ⟨64 * half.val + l.val / 2, by omega⟩)) (l.val % 2)).signExtend 32))
            (s (ix2 0 L)))
          (z (ix2 0 L))) := by
  unfold tile
  rw [shapeCast_self]
  have hb : ∀ w : FVec F S1x512 .f32, broadcastTo S32x128 (extractStridedSlice S1x128 o w ho) broadcasts_S1x128_S32x128 (ix2 r l)
      = w (ix2 0 L) := by
    intro w
    unfold broadcastTo extractStridedSlice
    refine congrArg w ?_
    funext a
    apply Fin.ext
    have ho0 : o 0 = 0 := by have := ho.2 0; dsimp at this; omega
    match a with
    | ⟨0, _⟩ => show o 0 + _ = 0; simp [ho0]
    | ⟨1, _⟩ => rw [hL]; rfl
  show FloatOps.truncf .bf16 _ (FloatOps.subf (FloatOps.mulf (FloatOps.sitofp .f32
    ((codes (F := F) (BitVec.ofNat 32 (64 * half.val)) v (ix2 r l)).signExtend 32)) _) _) = _
  rw [hb, hb, codes_apply]

/-- A scale row at column `L`: the factor times the sub-block factor of row `i`, read unsigned. -/
theorem scaleRow_apply (i : Fin 32) (r : Fin 2 → Nat) (h0 : r 0 = i.val) (h1 : r 1 = 0) (hr : S32x512.Slices r S1x512)
    (v : Vec F S32x512 .i8) (d : Vec F S1x512 .f16) (L : Fin 512) :
    scaleRow (F := F) r hr v d (ix2 0 L)
      = FloatOps.mulf (FloatOps.extf .f32 bitsLt_f16_f32 (d (ix2 0 L))) (FloatOps.sitofp .f32 ((v (ix2 i L)).setWidth 32)) := by
  unfold scaleRow
  show FloatOps.mulf _ (FloatOps.sitofp .f32 (BitVec.setWidth 32 (v _))) = _
  refine congrArg (fun w => FloatOps.mulf _ (FloatOps.sitofp .f32 (BitVec.setWidth 32 (v w)))) ?_
  funext a
  apply Fin.ext
  match a with
  | ⟨0, _⟩ => show r 0 + _ = i.val; rw [h0]; rfl
  | ⟨1, _⟩ => show r 1 + _ = L.val; rw [h1]; exact Nat.zero_add _

end Cert.Q4

end
-- ==== Proof.Pieces.lean ====
/-
  WHAT ONE TRIP OF THE DEQUANTIZING LOOP STORES, by name. The loop has 16 trips; trip `k` covers 32 blocks of 32 weight
  rows, and stores four tiles of 128 columns for each. `Cert.Q4.pieces` lists those 128 stores in the order the frame
  run found them (last first), each as a `Cert.Q4.tile` of what the trip loads; `trip_eq` says the list IS the run's.
-/
module

public import proofs.«01_k».proof.Proof.Gen.KernelIdeal.Value
public import proofs.«01_k».proof.Proof.Tile

@[expose] public section

set_option maxRecDepth 16384

noncomputable section

namespace Cert.Q4

open Cert.KernelIdeal Cert.KernelIdeal.Gen Idealize.ShloMosaic Idealize.ShloMosaic.TcCoe Idealize.SL.Sem

variable {F : FTy → Type} [FloatOps F]

/-- Row `r` of a `[32, 512]` block is inside it. -/
theorem slices_row (r : Fin 32) : S32x512.Slices ![r.val, 0] S1x512 := by
  revert r
  decide

section Trip

variable (i : grid0.Coords) (h1 : k0_cond1 i = 1#1)
  (arg3 : Memref sig .tc .vmem S16384x256 .i8) (arg4 arg5 : Memref sig .tc .vmem S64x512 .f16)
  (arg6 arg7 : Memref sig .tc .vmem S512x512 .i8)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (k : Fin k0_t1_loop.trips)

/-- The scale row of 32-row block `r` of trip `k`. -/
def sRow (r : Fin 32) : FVec F S1x512 .f32 :=
  scaleRow ![r.val, 0] (slices_row r)
    (View.readAt (Elt F) arg6.view (Rect.unit (s := S512x512) (k0_off1 k) S32x512.size (k0_off1_inb i k h1)).toLoadRect X6)
    (View.readAt (Elt F) arg4.view (Rect.unit (s := S64x512) (k0_off2 k (BitVec.ofNat 32 (⟨r.val / 8, by omega⟩ : Fin 4).val)) S1x512.size
      (k0_off2_inb i k h1 ⟨r.val / 8, by omega⟩)).toLoadRect X4)

/-- The packed bytes of block `r` of trip `k` under its first 256 columns. -/
def bytesLo (r : Fin 32) : Vec F S32x128 .i8 :=
  View.readAt (Elt F) arg3.view (Rect.unit (s := S16384x256) (k0_off3 k (BitVec.ofNat 32 (32 * r.val))) S32x128.size (k0_off3_inb i k h1 r)).toLoadRect X3

/-- The packed bytes of block `r` of trip `k` under its last 256 columns. -/
def bytesHi (r : Fin 32) : Vec F S32x128 .i8 :=
  View.readAt (Elt F) arg3.view (Rect.unit (s := S16384x256) (k0_off6 k (BitVec.ofNat 32 (32 * r.val))) S32x128.size (k0_off6_inb i k h1 r)).toLoadRect X3

/-- The four stores of block `r` of trip `k`, last first. -/
def blockPieces (r : Fin 32) : List (View.Piece (Elt F) S16384x512 .bf16) :=
  [⟨Rect.unit (s := S16384x512) (k0_off8 k (BitVec.ofNat 32 (32 * r.val))) S32x128.size (k0_off8_inb i k h1 r),
      tile 64#32 ![0, 384] slices_S1x512_o0_384_S1x128 (sRow i h1 arg4 arg6 X4 X6 k r) (sRow i h1 arg5 arg7 X5 X7 k r) (bytesHi i h1 arg3 X3 k r)⟩,
    ⟨Rect.unit (s := S16384x512) (k0_off7 k (BitVec.ofNat 32 (32 * r.val))) S32x128.size (k0_off7_inb i k h1 r),
      tile 0#32 ![0, 256] slices_S1x512_o0_256_S1x128 (sRow i h1 arg4 arg6 X4 X6 k r) (sRow i h1 arg5 arg7 X5 X7 k r) (bytesHi i h1 arg3 X3 k r)⟩,
    ⟨Rect.unit (s := S16384x512) (k0_off5 k (BitVec.ofNat 32 (32 * r.val))) S32x128.size (k0_off5_inb i k h1 r),
      tile 64#32 ![0, 128] slices_S1x512_o0_128_S1x128 (sRow i h1 arg4 arg6 X4 X6 k r) (sRow i h1 arg5 arg7 X5 X7 k r) (bytesLo i h1 arg3 X3 k r)⟩,
    ⟨Rect.unit (s := S16384x512) (k0_off4 k (BitVec.ofNat 32 (32 * r.val))) S32x128.size (k0_off4_inb i k h1 r),
      tile 0#32 ![0, 0] slices_S1x512_o0_0_S1x128 (sRow i h1 arg4 arg6 X4 X6 k r) (sRow i h1 arg5 arg7 X5 X7 k r) (bytesLo i h1 arg3 X3 k r)⟩]

/-- The stores of the blocks before `n`, last first. -/
def piecesUpTo : (n : ℕ) → n ≤ 32 → List (View.Piece (Elt F) S16384x512 .bf16)
  | 0, _ => []
  | n + 1, h => blockPieces i h1 arg3 arg4 arg5 arg6 arg7 X3 X4 X5 X6 X7 k ⟨n, h⟩ ++ piecesUpTo n (Nat.le_of_succ_le h)

end Trip

/-- THE TRIP'S STORES are the 128 named tiles. -/
theorem trip_eq (𝒱 : Variants) (c : Dev nD) (bd : Option 𝒱.V) (i : grid0.Coords) (arg2 : Memref sig .tc .vmem S256x16384 .bf16) (harg2 : arg2.IsWhole) (arg3 : Memref sig .tc .vmem S16384x256 .i8) (harg3 : arg3.IsWhole) (arg4 : Memref sig .tc .vmem S64x512 .f16) (harg4 : arg4.IsWhole) (arg5 : Memref sig .tc .vmem S64x512 .f16) (harg5 : arg5.IsWhole) (arg6 : Memref sig .tc .vmem S512x512 .i8) (harg6 : arg6.IsWhole) (arg7 : Memref sig .tc .vmem S512x512 .i8) (harg7 : arg7.IsWhole) (arg8 : Memref sig .tc .vmem S256x512 .bf16) (harg8 : arg8.IsWhole) (arg9 : Memref sig .tc .vmem S16384x512 .bf16) (harg9 : arg9.IsWhole) (h1 : k0_cond1 i = 1#1)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (k : Fin k0_t1_loop.trips) :
    tripL_k0_t1 (F := F) 𝒱 c bd i arg2 harg2 arg3 harg3 arg4 harg4 arg5 harg5 arg6 harg6 arg7 harg7 arg8 harg8 arg9 harg9 h1 X3 X4 X5 X6 X7 k
      = piecesUpTo i h1 arg3 arg4 arg5 arg6 arg7 X3 X4 X5 X6 X7 k 32 le_rfl := by
  unfold tripL_k0_t1 trip_k0_t1
  rfl

end Cert.Q4

end
-- ==== Proof.Weight.lean ====
/-
  THE WEIGHT BLOCK. `weightBlk` is the dequantized `[16384, 512]` weight block as ONE function of the five quantized input
  blocks, index by index: at row `r`, column `j`

    code(r, j) · (d[r / 256, j] · sc[r / 32, j]) − dmin[r / 256, j] · mn[r / 32, j],   rounded to bf16,

  where `code(r, j)` is the half of parity `j % 2` of byte `j / 2` of row `r`. Every one of the 2048 tiles the kernel
  stores is a block of it (`blockPieces_ok`, `pb_ok`), so what the loop leaves in the scratch is the whole of it.
-/
module

public import proofs.«01_k».proof.Proof.Pieces
public import Idealize.ShloMosaic.Lib.Pipeline.ValueKit.Tiles

@[expose] public section

set_option maxRecDepth 16384

noncomputable section

namespace Cert.Q4

open Cert.KernelIdeal Cert.KernelIdeal.Gen Idealize.ShloMosaic Idealize.ShloMosaic.TcCoe Idealize.SL.Sem
open Idealize.ShloMosaic.ValueIdx

variable {F : FTy → Type} [FloatOps F]

/-- One weight: the code of parity `odd` in byte `b`, times `d · sc`, minus `dmin · mn`, rounded to bf16. -/
def deq (b : BitVec 8) (odd : Nat) (d dmin : F .f16) (sc mn : BitVec 8) : F .bf16 :=
  FloatOps.truncf .bf16 bitsLt_bf16_f32 (FloatOps.subf
    (FloatOps.mulf (FloatOps.sitofp .f32 ((code b odd).signExtend 32))
      (FloatOps.mulf (FloatOps.extf .f32 bitsLt_f16_f32 d) (FloatOps.sitofp .f32 (sc.setWidth 32))))
    (FloatOps.mulf (FloatOps.extf .f32 bitsLt_f16_f32 dmin) (FloatOps.sitofp .f32 (mn.setWidth 32))))

/-- The weight block of five quantized blocks, at row `r`, column `j`. -/
def weightAt (x1 : Vec F S16384x256 .i8) (x2 x3 : Vec F S64x512 .f16) (x4 x5 : Vec F S512x512 .i8)
    (r : Fin 16384) (j : Fin 512) : F .bf16 :=
  deq (F := F) (x1 (ix2 r ⟨j.val / 2, by omega⟩)) (j.val % 2)
    (x2 (ix2 ⟨r.val / 256, by omega⟩ j)) (x3 (ix2 ⟨r.val / 256, by omega⟩ j))
    (x4 (ix2 ⟨r.val / 32, by omega⟩ j)) (x5 (ix2 ⟨r.val / 32, by omega⟩ j))

/-- The weight block of five quantized blocks. -/
def weightBlk (x1 : Vec F S16384x256 .i8) (x2 x3 : Vec F S64x512 .f16) (x4 x5 : Vec F S512x512 .i8) :
    Vec F S16384x512 .bf16 :=
  fun y => weightAt x1 x2 x3 x4 x5 (y 0) (y 1)

/-- The weight at row `r`, column `j`, with the byte's column, the scale group and the code group named from outside. -/
theorem weightAt_of (x1 : Vec F S16384x256 .i8) (x2 x3 : Vec F S64x512 .f16) (x4 x5 : Vec F S512x512 .i8)
    (r : Fin 16384) (j : Fin 512) (b : Fin 256) (q : Fin 64) (g : Fin 512) (odd : Nat) (hb : b.val = j.val / 2)
    (hq : q.val = r.val / 256) (hg : g.val = r.val / 32) (ho : odd = j.val % 2) :
    weightAt x1 x2 x3 x4 x5 r j
      = deq (F := F) (x1 (ix2 r b)) odd (x2 (ix2 q j)) (x3 (ix2 q j)) (x4 (ix2 g j)) (x5 (ix2 g j)) := by
  have eb : (⟨j.val / 2, by omega⟩ : Fin 256) = b := Fin.ext hb.symm
  have eq : (⟨r.val / 256, by omega⟩ : Fin 64) = q := Fin.ext hq.symm
  have eg : (⟨r.val / 32, by omega⟩ : Fin 512) = g := Fin.ext hg.symm
  unfold weightAt
  rw [eb, eq, eg, ho]

/-- A tile of block `r` of trip `k` at column chunk `c` is the block of `weightBlk` its store names. -/
theorem tile_ok (x1 : Vec F S16384x256 .i8) (x2 x3 : Vec F S64x512 .f16) (x4 x5 : Vec F S512x512 .i8)
    (k : Nat) (hk : k < 16) (r : Fin 32) (c : Fin 4) (off : Fin 2 → Nat) (hoff : off = ![1024 * k + 32 * r.val, 128 * c.val])
    (inb : ∀ a, off a + S32x128.size a ≤ S16384x512.size a)
    (o : Fin 2 → Nat) (eo : o 1 = 128 * c.val) (ho : S1x512.Slices o S1x128) (half : Fin 2) (hhalf : half.val = c.val % 2)
    (s z : FVec F S1x512 .f32) (v : Vec F S32x128 .i8)
    (hv : ∀ (p : Fin 32) (l : Fin 128), v (ix2 p l)
      = x1 (ix2 ⟨1024 * k + 32 * r.val + p.val, by omega⟩ ⟨128 * (c.val / 2) + l.val, by omega⟩))
    (hs : ∀ L : Fin 512, s (ix2 0 L) = FloatOps.mulf (FloatOps.extf .f32 bitsLt_f16_f32 (x2 (ix2 ⟨4 * k + r.val / 8, by omega⟩ L)))
      (FloatOps.sitofp .f32 ((x4 (ix2 ⟨32 * k + r.val, by omega⟩ L)).setWidth 32)))
    (hz : ∀ L : Fin 512, z (ix2 0 L) = FloatOps.mulf (FloatOps.extf .f32 bitsLt_f16_f32 (x3 (ix2 ⟨4 * k + r.val / 8, by omega⟩ L)))
      (FloatOps.sitofp .f32 ((x5 (ix2 ⟨32 * k + r.val, by omega⟩ L)).setWidth 32)))
    (x : (Rect.unit (s := S16384x512) off S32x128.size inb).shape.Idx) :
    tile (F := F) (BitVec.ofNat 32 (64 * half.val)) o ho s z v x
      = weightBlk x1 x2 x3 x4 x5 ((Rect.unit (s := S16384x512) off S32x128.size inb).emb x) := by
  subst hoff
  obtain ⟨p, l, rfl⟩ : ∃ (p : Fin 32) (l : Fin 128), x = ix2 p l := ⟨x 0, x 1, eq_ix2 x⟩
  have hL : 128 * c.val + l.val < 512 := by omega
  rw [tile_apply half o ho s z v p l ⟨128 * c.val + l.val, hL⟩ (by rw [eo]), hs, hz, hv]
  have e0 : ((Rect.unit (s := S16384x512) ![1024 * k + 32 * r.val, 128 * c.val] S32x128.size inb).emb (ix2 p l)) 0
      = (⟨1024 * k + 32 * r.val + p.val, by omega⟩ : Fin 16384) := Fin.ext (Rect.idx_unit_val _ _ inb _ 0)
  have e1 : ((Rect.unit (s := S16384x512) ![1024 * k + 32 * r.val, 128 * c.val] S32x128.size inb).emb (ix2 p l)) 1
      = (⟨128 * c.val + l.val, hL⟩ : Fin 512) := Fin.ext (Rect.idx_unit_val _ _ inb _ 1)
  unfold weightBlk
  rw [e0, e1, weightAt_of x1 x2 x3 x4 x5 _ _ ⟨128 * (c.val / 2) + (64 * half.val + l.val / 2), by omega⟩
    ⟨4 * k + r.val / 8, by omega⟩ ⟨32 * k + r.val, by omega⟩ (l.val % 2)
    (by simp only; omega) (by simp only; omega) (by simp only; omega) (by simp only; omega)]
  rfl

/-- A load through a rectangle whose offsets have a closed form `off'`. -/
theorem ld_at {S : Shape} {Val : EltTy → Type} {e : EltTy} (X : S.Idx → Val e) (off size off' : Fin S.rank → Nat)
    (ho : off = off') (inb : ∀ a, off a + size a ≤ S.size a) (x : (Rect.unit off size inb).shape.Idx) (i : S.Idx)
    (hi : ∀ a, (i a : Nat) = off' a + x a) : View.ld X (Rect.unit off size inb) x = X i := by
  subst ho
  exact View.ld_unit_apply_of X off size inb x i hi

theorem trips_lt (k : Fin k0_t1_loop.trips) : k.val < 16 := lt_of_lt_of_eq k.isLt (by decide)

/-- The scale row of block `r` of trip `k`, over the two arrays it reads. -/
theorem sRow_apply (i : grid0.Coords) (h1 : k0_cond1 i = 1#1) (arg4 : Memref sig .tc .vmem S64x512 .f16)
    (arg6 : Memref sig .tc .vmem S512x512 .i8) (X4 : BufTy.Contents (Elt F) arg4.view.ty)
    (X6 : BufTy.Contents (Elt F) arg6.view.ty) (k : Fin k0_t1_loop.trips) (r : Fin 32) (hk : k.val < 16) (L : Fin 512) :
    sRow i h1 arg4 arg6 X4 X6 k r (ix2 0 L)
      = FloatOps.mulf (FloatOps.extf .f32 bitsLt_f16_f32 (arg4.view.read (Elt F) X4 (ix2 ⟨4 * k.val + r.val / 8, by omega⟩ L)))
        (FloatOps.sitofp .f32 ((arg6.view.read (Elt F) X6 (ix2 ⟨32 * k.val + r.val, by omega⟩ L)).setWidth 32)) := by
  unfold sRow
  rw [scaleRow_apply r ![r.val, 0] rfl rfl, View.readAt_eq_ld, View.readAt_eq_ld]
  exact congrArg₂ FloatOps.mulf
    (congrArg (FloatOps.extf .f32 bitsLt_f16_f32) (ld_at (S := S64x512) _ _ _ _ (k0_off2_eq k ⟨r.val / 8, by omega⟩) _ (ix2 0 L) _ (fun a =>
      match a with
      | ⟨0, _⟩ => rfl
      | ⟨1, _⟩ => (Nat.zero_add _).symm)))
    (congrArg (fun b : BitVec 8 => FloatOps.sitofp .f32 (b.setWidth 32)) (ld_at (S := S512x512) _ _ _ _ (k0_off1_eq k) _ (ix2 r L) _ (fun a =>
      match a with
      | ⟨0, _⟩ => rfl
      | ⟨1, _⟩ => (Nat.zero_add _).symm)))

/-- The bytes of block `r` of trip `k` under its first 256 columns. -/
theorem bytesLo_apply (i : grid0.Coords) (h1 : k0_cond1 i = 1#1) (arg3 : Memref sig .tc .vmem S16384x256 .i8)
    (X3 : BufTy.Contents (Elt F) arg3.view.ty) (k : Fin k0_t1_loop.trips) (r : Fin 32) (hk : k.val < 16) (p : Fin 32) (l : Fin 128) :
    bytesLo i h1 arg3 X3 k r (ix2 p l)
      = arg3.view.read (Elt F) X3 (ix2 ⟨1024 * k.val + 32 * r.val + p.val, by omega⟩ ⟨l.val, by omega⟩) := by
  unfold bytesLo
  rw [View.readAt_eq_ld]
  exact ld_at (S := S16384x256) _ _ _ _ (k0_off3_eq k r) _ (ix2 p l) _ (fun a =>
    match a with
    | ⟨0, _⟩ => rfl
    | ⟨1, _⟩ => (Nat.zero_add _).symm)

/-- The bytes of block `r` of trip `k` under its last 256 columns. -/
theorem bytesHi_apply (i : grid0.Coords) (h1 : k0_cond1 i = 1#1) (arg3 : Memref sig .tc .vmem S16384x256 .i8)
    (X3 : BufTy.Contents (Elt F) arg3.view.ty) (k : Fin k0_t1_loop.trips) (r : Fin 32) (hk : k.val < 16) (p : Fin 32) (l : Fin 128) :
    bytesHi i h1 arg3 X3 k r (ix2 p l)
      = arg3.view.read (Elt F) X3 (ix2 ⟨1024 * k.val + 32 * r.val + p.val, by omega⟩ ⟨128 + l.val, by omega⟩) := by
  unfold bytesHi
  rw [View.readAt_eq_ld]
  exact ld_at (S := S16384x256) _ _ _ _ (k0_off6_eq k r) _ (ix2 p l) _ (fun a =>
    match a with
    | ⟨0, _⟩ => rfl
    | ⟨1, _⟩ => rfl)

section Loop

variable (i : grid0.Coords) (h1 : k0_cond1 i = 1#1)
  (arg3 : Memref sig .tc .vmem S16384x256 .i8) (arg4 arg5 : Memref sig .tc .vmem S64x512 .f16)
  (arg6 arg7 : Memref sig .tc .vmem S512x512 .i8)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty)

/-- A store is good when its payload is the block of `weightBlk` (of the five arrays the loop reads) its rectangle names. -/
def Good (p : View.Piece (Elt F) S16384x512 .bf16) : Prop :=
  ∀ x : p.1.shape.Idx, p.2 x = weightBlk (arg3.view.read (Elt F) X3) (arg4.view.read (Elt F) X4) (arg5.view.read (Elt F) X5)
    (arg6.view.read (Elt F) X6) (arg7.view.read (Elt F) X7) (p.1.emb x)

/-- The four stores of a 32-row block are good. -/
theorem blockPieces_ok (k : Fin k0_t1_loop.trips) (r : Fin 32) :
    ∀ p ∈ blockPieces i h1 arg3 arg4 arg5 arg6 arg7 X3 X4 X5 X6 X7 k r, Good arg3 arg4 arg5 arg6 arg7 X3 X4 X5 X6 X7 p := by
  have hk := trips_lt k
  intro p hp
  unfold blockPieces at hp
  simp only [List.mem_cons, List.not_mem_nil, or_false] at hp
  obtain rfl | rfl | rfl | rfl := hp <;> intro x
  · exact tile_ok _ _ _ _ _ k.val hk r 3 _ (k0_off8_eq k r) (k0_off8_inb i k h1 r) _ rfl _ 1 rfl _ _ _ (fun p l => bytesHi_apply i h1 arg3 X3 k r hk p l)
      (sRow_apply i h1 arg4 arg6 X4 X6 k r hk) (sRow_apply i h1 arg5 arg7 X5 X7 k r hk) x
  · exact tile_ok _ _ _ _ _ k.val hk r 2 _ (k0_off7_eq k r) (k0_off7_inb i k h1 r) _ rfl _ 0 rfl _ _ _ (fun p l => bytesHi_apply i h1 arg3 X3 k r hk p l)
      (sRow_apply i h1 arg4 arg6 X4 X6 k r hk) (sRow_apply i h1 arg5 arg7 X5 X7 k r hk) x
  · exact tile_ok _ _ _ _ _ k.val hk r 1 _ (k0_off5_eq k r) (k0_off5_inb i k h1 r) _ rfl _ 1 rfl _ _ _ (fun p l => by
        rw [bytesLo_apply i h1 arg3 X3 k r hk p l]; exact congrArg _ (congrArg _ (Fin.ext (Nat.zero_add _).symm)))
      (sRow_apply i h1 arg4 arg6 X4 X6 k r hk) (sRow_apply i h1 arg5 arg7 X5 X7 k r hk) x
  · exact tile_ok _ _ _ _ _ k.val hk r 0 _ (k0_off4_eq k r) (k0_off4_inb i k h1 r) _ rfl _ 0 rfl _ _ _ (fun p l => by
        rw [bytesLo_apply i h1 arg3 X3 k r hk p l]; exact congrArg _ (congrArg _ (Fin.ext (Nat.zero_add _).symm)))
      (sRow_apply i h1 arg4 arg6 X4 X6 k r hk) (sRow_apply i h1 arg5 arg7 X5 X7 k r hk) x

/-- The stores of a trip are good. -/
theorem piecesUpTo_ok (k : Fin k0_t1_loop.trips) : ∀ (n : ℕ) (h : n ≤ 32),
    ∀ p ∈ piecesUpTo i h1 arg3 arg4 arg5 arg6 arg7 X3 X4 X5 X6 X7 k n h, Good arg3 arg4 arg5 arg6 arg7 X3 X4 X5 X6 X7 p
  | 0, _ => fun p hp => absurd hp (by unfold piecesUpTo; exact List.not_mem_nil)
  | n + 1, h => fun p hp => by
    unfold piecesUpTo at hp
    rcases List.mem_append.mp hp with hp | hp
    · exact blockPieces_ok i h1 arg3 arg4 arg5 arg6 arg7 X3 X4 X5 X6 X7 k ⟨n, h⟩ p hp
    · exact piecesUpTo_ok k n _ p hp

/-- THE LOOP'S STORES are good: each stores, into its rectangle, that block of the weight. -/
theorem pb_ok (𝒱 : Variants) (c : Dev nD) (bd : Option 𝒱.V) (arg2 : Memref sig .tc .vmem S256x16384 .bf16) (harg2 : arg2.IsWhole)
    (harg3 : arg3.IsWhole) (harg4 : arg4.IsWhole) (harg5 : arg5.IsWhole) (harg6 : arg6.IsWhole) (harg7 : arg7.IsWhole)
    (arg8 : Memref sig .tc .vmem S256x512 .bf16) (harg8 : arg8.IsWhole) (arg9 : Memref sig .tc .vmem S16384x512 .bf16) (harg9 : arg9.IsWhole) :
    ∀ (n : ℕ) (_ : n ≤ k0_t1_loop.trips),
      ∀ p ∈ pb_k0_t1 (F := F) 𝒱 c bd i arg2 harg2 arg3 harg3 arg4 harg4 arg5 harg5 arg6 harg6 arg7 harg7 arg8 harg8 arg9 harg9 h1 X3 X4 X5 X6 X7 n,
        Good arg3 arg4 arg5 arg6 arg7 X3 X4 X5 X6 X7 p
  | 0, _ => fun p hp => absurd hp (by unfold pb_k0_t1; exact List.not_mem_nil)
  | n + 1, h => fun p hp => by
    rw [pb_k0_t1_succ 𝒱 c bd i arg2 harg2 arg3 harg3 arg4 harg4 arg5 harg5 arg6 harg6 arg7 harg7 arg8 harg8 arg9 harg9 h1 X3 X4 X5 X6 X7 ⟨n, h⟩,
      trip_eq] at hp
    rcases List.mem_append.mp hp with hp | hp
    · exact piecesUpTo_ok i h1 arg3 arg4 arg5 arg6 arg7 X3 X4 X5 X6 X7 ⟨n, h⟩ 32 le_rfl p hp
    · exact pb_ok 𝒱 c bd arg2 harg2 harg3 harg4 harg5 harg6 harg7 arg8 harg8 arg9 harg9 n (Nat.le_of_succ_le h) p hp

end Loop

end Cert.Q4

end
-- ==== Proof.Fill.lean ====
/-
  WHAT THE BODY LEAVES, per case. At the first row block of a column block the loop runs: the scratch ends holding the
  weight block of the five quantized input blocks (`sout_A`), and the output block is the matmul of the activation block
  with it (`out_A`). At the other row blocks the scratch stays, and the output block is the matmul with what it holds (`out_B`).
-/
module

public import proofs.«01_k».proof.Proof.Weight
public import proofs.«01_k».proof.Proof.Gen.KernelIdeal.Frame

@[expose] public section

set_option maxRecDepth 16384

noncomputable section

namespace Cert.Q4

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Cases

variable (c : Dev nD) (i : grid0.Coords) (arg2 : Memref sig .tc .vmem S256x16384 .bf16) (harg2 : arg2.IsWhole)
  (arg3 : Memref sig .tc .vmem S16384x256 .i8) (harg3 : arg3.IsWhole) (arg4 : Memref sig .tc .vmem S64x512 .f16) (harg4 : arg4.IsWhole)
  (arg5 : Memref sig .tc .vmem S64x512 .f16) (harg5 : arg5.IsWhole) (arg6 : Memref sig .tc .vmem S512x512 .i8) (harg6 : arg6.IsWhole)
  (arg7 : Memref sig .tc .vmem S512x512 .i8) (harg7 : arg7.IsWhole) (arg8 : Memref sig .tc .vmem S256x512 .bf16) (harg8 : arg8.IsWhole)
  (arg9 : Memref sig .tc .vmem S16384x512 .bf16) (harg9 : arg9.IsWhole)
  (x0 : Vec F S256x16384 .bf16) (x1 : Vec F S16384x256 .i8) (x2 x3 : Vec F S64x512 .f16) (x4 x5 : Vec F S512x512 .i8)

/-- The loop's stores, read back anywhere, are the weight block. -/
theorem canon_pb (h1 : k0_cond1 i = 1#1) (L : List (View.Piece (Elt F) S16384x512 .bf16))
    (hL : L = pb_k0_t1 (F := F) Variants.none c none i arg2 harg2 arg3 harg3 arg4 harg4 arg5 harg5 arg6 harg6 arg7 harg7 arg8 harg8 arg9 harg9 h1
      (harg3.unread x1) (harg4.unread x2) (harg5.unread x3) (harg6.unread x4) (harg7.unread x5) k0_t1_loop.trips)
    (cover : ∀ y, ∃ p ∈ L, y ∈ p.1.set) : View.canon L = weightBlk x1 x2 x3 x4 x5 := by
  funext y
  refine View.canon_apply_of_pieces _ L (fun p hp x => ?_) y (cover y)
  subst hL
  have h := pb_ok i h1 arg3 arg4 arg5 arg6 arg7 (harg3.unread x1) (harg4.unread x2) (harg5.unread x3) (harg6.unread x4) (harg7.unread x5)
    Variants.none c none arg2 harg2 harg3 harg4 harg5 harg6 harg7 arg8 harg8 arg9 harg9 k0_t1_loop.trips le_rfl p hp x
  rw [harg3.read_unread, harg4.read_unread, harg5.read_unread, harg6.read_unread, harg7.read_unread] at h
  exact h

/-- The scratch after a first row block: the weight block. -/
theorem sout_A (hc : cond0_0 i) :
    sout0_A_0 c i arg2 harg2 arg3 harg3 arg4 harg4 arg5 harg5 arg6 harg6 arg7 harg7 arg8 harg8 arg9 harg9 hc x0 x1 x2 x3 x4 x5
      = weightBlk x1 x2 x3 x4 x5 := by
  unfold sout0_A_0
  rw [View.read_writes_eq_canon _ _ _ (scover0_A_0 c i arg2 harg2 arg3 harg3 arg4 harg4 arg5 harg5 arg6 harg6 arg7 harg7 arg8 harg8 arg9 harg9 hc x0 x1 x2 x3 x4 x5)]
  refine canon_pb c i arg2 harg2 arg3 harg3 arg4 harg4 arg5 harg5 arg6 harg6 arg7 harg7 arg8 harg8 arg9 harg9 x1 x2 x3 x4 x5 hc _ ?_
    (scover0_A_0 c i arg2 harg2 arg3 harg3 arg4 harg4 arg5 harg5 arg6 harg6 arg7 harg7 arg8 harg8 arg9 harg9 hc x0 x1 x2 x3 x4 x5)
  unfold kernelRun0_A
  rfl

/-- The output block after a first row block: the matmul of the activations with the weight block. -/
theorem out_A (hc : cond0_0 i) :
    out0_A_6 c i arg2 harg2 arg3 harg3 arg4 harg4 arg5 harg5 arg6 harg6 arg7 harg7 arg8 harg8 arg9 harg9 hc x0 x1 x2 x3 x4 x5
      = k0_pay2 x0 (weightBlk x1 x2 x3 x4 x5) := by
  rw [← sout_A c i arg2 harg2 arg3 harg3 arg4 harg4 arg5 harg5 arg6 harg6 arg7 harg7 arg8 harg8 arg9 harg9 x0 x1 x2 x3 x4 x5 hc]
  unfold out0_A_6 sout0_A_0
  rw [View.read_writes_eq_canon _ _ _ (cover0_A_6 c i arg2 harg2 arg3 harg3 arg4 harg4 arg5 harg5 arg6 harg6 arg7 harg7 arg8 harg8 arg9 harg9 hc x0 x1 x2 x3 x4 x5),
    View.read_writes_eq_canon _ _ _ (scover0_A_0 c i arg2 harg2 arg3 harg3 arg4 harg4 arg5 harg5 arg6 harg6 arg7 harg7 arg8 harg8 arg9 harg9 hc x0 x1 x2 x3 x4 x5)]
  have cv := scover0_A_0 c i arg2 harg2 arg3 harg3 arg4 harg4 arg5 harg5 arg6 harg6 arg7 harg7 arg8 harg8 arg9 harg9 hc x0 x1 x2 x3 x4 x5
  revert cv
  unfold kernelRun0_A
  dsimp only
  intro cv
  rw [View.canon_unit_zero (S := S256x512) hz, View.readCov_eq_canon_ld _ _ _ cv]
  simp only [View.readAt_eq_ld, harg2.read_unread, View.ld_unit_zero (S := S256x16384) hz, View.ld_unit_zero (S := S16384x512) hz]

/-- The output block after another row block: the matmul of the activations with what the scratch holds. -/
theorem out_B (hc : ¬cond0_0 i) (xs0 : Vec F S16384x512 .bf16) :
    out0_B_6 c i arg2 harg2 arg3 harg3 arg4 harg4 arg5 harg5 arg6 harg6 arg7 harg7 arg8 harg8 arg9 harg9 hc x0 x1 x2 x3 x4 x5 xs0
      = k0_pay2 x0 xs0 := by
  unfold out0_B_6
  rw [View.read_writes_eq_canon _ _ _ (cover0_B_6 c i arg2 harg2 arg3 harg3 arg4 harg4 arg5 harg5 arg6 harg6 arg7 harg7 arg8 harg8 arg9 harg9 hc x0 x1 x2 x3 x4 x5 xs0)]
  unfold kernelRun0_B
  dsimp only
  rw [View.canon_unit_zero (S := S256x512) hz]
  simp only [View.readAt_eq_ld, harg2.read_unread, harg9.read_unread, View.ld_unit_zero (S := S256x16384) hz, View.ld_unit_zero (S := S16384x512) hz]

end Cases

end Cert.Q4

end
-- ==== Proof.KernelValue.lean ====
/-
  THE KERNEL'S RESULT. The scratch is written at the first of the 48 row blocks of a column block and held through the
  others, so every point multiplies its activation block by the weight block of ITS column block (`outs_eq`); the weight
  block read through the windows is that block of the whole dequantized weight (`weight_at`). So at the ideal values
  entry (p, q) of the result is the plain inner product of row p of the activations with column q of the dequantized
  weight (`kernel_eq`).
-/
module

public import proofs.«01_k».proof.Proof.Fill
public import proofs.«01_k».proof.Proof.Gen.KernelIdeal.Value
public import Idealize.ShloMosaic.Lib.MatmulPlain
public import Idealize.ShloMosaic.Lib.Pipeline.ValueKit.Held
public import Idealize.ShloMosaic.Lib.Claim

@[expose] public section

set_option maxRecDepth 16384

noncomputable section

namespace Cert.Q4

open Cert.KernelIdeal Cert.KernelIdeal.Gen Cert.KernelIdeal.Value Idealize.ShloMosaic Idealize.ShloMosaic.TcCoe Idealize.SL.Sem
open Idealize.ShloMosaic.ValueIdx
open scoped BigOperators

variable {F : FTy → Type} [FloatOps F]

/-- Entry (r, j) of the whole dequantized weight. -/
def wAt (qs : Vec F S16384x2560 .i8) (d dmin : Vec F S64x5120 .f16) (sc mn : Vec F S512x5120 .i8)
    (r : Fin 16384) (j : Fin 5120) : F .bf16 :=
  deq (F := F) (qs (ix2 r ⟨j.val / 2, by omega⟩)) (j.val % 2)
    (d (ix2 ⟨r.val / 256, by omega⟩ j)) (dmin (ix2 ⟨r.val / 256, by omega⟩ j))
    (sc (ix2 ⟨r.val / 32, by omega⟩ j)) (mn (ix2 ⟨r.val / 32, by omega⟩ j))

section Run

variable (m : (ℓ : Loc nD τ sig) → Buf (Elt F) ℓ)

/-- The weight block of the quantized input blocks at point `t`. -/
def wBlk (c : Dev nD) (t : Fin cfg0.N) : Vec F S16384x512 .bf16 :=
  weightBlk (F := F) (iblk m c 1 t) (iblk m c 2 t) (iblk m c 3 t) (iblk m c 4 t) (iblk m c 5 t)

/-- After point `t` the scratch holds the weight block of the first point of `t`'s column block. -/
theorem scratch_eq (c : Dev nD) (t : Fin cfg0.N) :
    (outsAt0 m c t.val t.isLt).2 = wBlk m c ⟨48 * (t.val / 48), Pipeline.run_start_lt t⟩ :=
  Pipeline.eq_of_write_hold (N := cfg0.N) (fun n h => (outsAt0 m c n h).2) 48 (fun t => wBlk m c t)
    (fun t h => by
      show (outsAt0 m c t.val t.isLt).2 = _
      rw [outsAt0_A m c t h]
      dsimp only
      rw [sout_A]
      rfl)
    (fun t h => by
      show (outsAt0 m c t.val t.isLt).2 = _
      rw [outsAt0_B m c t h]
      rfl) t

/-- After point `t` the output block is the matmul of the activation block with that weight block. -/
theorem outs_eq (c : Dev nD) (t : Fin cfg0.N) :
    (outsAt0 m c t.val t.isLt).1 = k0_pay2 (iblk m c 0 t) (wBlk m c ⟨48 * (t.val / 48), Pipeline.run_start_lt t⟩) := by
  rw [← scratch_eq m c t]
  by_cases h : t.val % 48 = 0
  · rw [outsAt0_A m c t h]
    dsimp only
    rw [out_A, sout_A]
  · rw [outsAt0_B m c t h]
    dsimp only
    rw [out_B]
    rfl

/-- The index maps: row block `t % 48` of the activations, column block `t / 48` of the quantized arrays. -/
theorem idx (t : Fin cfg0.N) : win0_0.index t = ![t.val % 48, 0] ∧ win0_1.index t = ![0, t.val / 48]
    ∧ win0_2.index t = ![0, t.val / 48] ∧ win0_3.index t = ![0, t.val / 48] ∧ win0_4.index t = ![0, t.val / 48]
    ∧ win0_5.index t = ![0, t.val / 48] := by
  revert t
  exact (by decide +kernel : ∀ t : Fin grid0.N, win0_0.index t = ![t.val % 48, 0] ∧ win0_1.index t = ![0, t.val / 48]
    ∧ win0_2.index t = ![0, t.val / 48] ∧ win0_3.index t = ![0, t.val / 48] ∧ win0_4.index t = ![0, t.val / 48]
    ∧ win0_5.index t = ![0, t.val / 48])

/-- The bytes' block at point `t`, read in the array. -/
theorem qs_at (c : Dev nD) (t : Fin cfg0.N) (r : Fin 16384) (b : Fin 256) (B : Fin 2560) (hB : B.val = t.val / 48 * 256 + b.val) :
    iblk m c 1 t (ix2 r b) = m ((c : Thread nD τ).loc main_arg1) (ix2 r B) := by
  obtain ⟨-, e, -⟩ := idx t
  rw [← V_main_arg1 m c]
  show V m c main_arg1 (((cfg0.win 1).blk t).view.emb (ix2 r b)) = _
  congr 1
  funext a
  apply Fin.ext
  match a with
  | ⟨0, _⟩ => show win0_1.index t 0 * 16384 + 1 * r.val = r.val; rw [e]; simp
  | ⟨1, _⟩ => show win0_1.index t 1 * 256 + 1 * b.val = B.val; rw [e, hB]; simp

/-- The scales' block. -/
theorem d_at (c : Dev nD) (t : Fin cfg0.N) (r : Fin 64) (b : Fin 512) (B : Fin 5120) (hB : B.val = t.val / 48 * 512 + b.val) :
    iblk m c 2 t (ix2 r b) = m ((c : Thread nD τ).loc main_arg2) (ix2 r B) := by
  obtain ⟨-, -, e, -⟩ := idx t
  rw [← V_main_arg2 m c]
  show V m c main_arg2 (((cfg0.win 2).blk t).view.emb (ix2 r b)) = _
  congr 1
  funext a
  apply Fin.ext
  match a with
  | ⟨0, _⟩ => show win0_2.index t 0 * 64 + 1 * r.val = r.val; rw [e]; simp
  | ⟨1, _⟩ => show win0_2.index t 1 * 512 + 1 * b.val = B.val; rw [e, hB]; simp

/-- The offset scales' block. -/
theorem dmin_at (c : Dev nD) (t : Fin cfg0.N) (r : Fin 64) (b : Fin 512) (B : Fin 5120) (hB : B.val = t.val / 48 * 512 + b.val) :
    iblk m c 3 t (ix2 r b) = m ((c : Thread nD τ).loc main_arg3) (ix2 r B) := by
  obtain ⟨-, -, -, e, -⟩ := idx t
  rw [← V_main_arg3 m c]
  show V m c main_arg3 (((cfg0.win 3).blk t).view.emb (ix2 r b)) = _
  congr 1
  funext a
  apply Fin.ext
  match a with
  | ⟨0, _⟩ => show win0_3.index t 0 * 64 + 1 * r.val = r.val; rw [e]; simp
  | ⟨1, _⟩ => show win0_3.index t 1 * 512 + 1 * b.val = B.val; rw [e, hB]; simp

/-- The scale codes' block. -/
theorem sc_at (c : Dev nD) (t : Fin cfg0.N) (r : Fin 512) (b : Fin 512) (B : Fin 5120) (hB : B.val = t.val / 48 * 512 + b.val) :
    iblk m c 4 t (ix2 r b) = m ((c : Thread nD τ).loc main_arg4) (ix2 r B) := by
  obtain ⟨-, -, -, -, e, -⟩ := idx t
  rw [← V_main_arg4 m c]
  show V m c main_arg4 (((cfg0.win 4).blk t).view.emb (ix2 r b)) = _
  congr 1
  funext a
  apply Fin.ext
  match a with
  | ⟨0, _⟩ => show win0_4.index t 0 * 512 + 1 * r.val = r.val; rw [e]; simp
  | ⟨1, _⟩ => show win0_4.index t 1 * 512 + 1 * b.val = B.val; rw [e, hB]; simp

/-- The offset codes' block. -/
theorem mn_at (c : Dev nD) (t : Fin cfg0.N) (r : Fin 512) (b : Fin 512) (B : Fin 5120) (hB : B.val = t.val / 48 * 512 + b.val) :
    iblk m c 5 t (ix2 r b) = m ((c : Thread nD τ).loc main_arg5) (ix2 r B) := by
  obtain ⟨-, -, -, -, -, e⟩ := idx t
  rw [← V_main_arg5 m c]
  show V m c main_arg5 (((cfg0.win 5).blk t).view.emb (ix2 r b)) = _
  congr 1
  funext a
  apply Fin.ext
  match a with
  | ⟨0, _⟩ => show win0_5.index t 0 * 512 + 1 * r.val = r.val; rw [e]; simp
  | ⟨1, _⟩ => show win0_5.index t 1 * 512 + 1 * b.val = B.val; rw [e, hB]; simp

/-- The activations' block at point `t`: rows `256 · (t % 48)` on of the argument, whose middle axis is 1. -/
theorem x_at (c : Dev nD) (t : Fin cfg0.N) (p : Fin 256) (k : Fin 16384) (P : Fin 12288) (hP : P.val = t.val % 48 * 256 + p.val) :
    iblk m c 0 t (ix2 p k) = m ((c : Thread nD τ).loc main_arg0) (ix3 P 0 k) := by
  obtain ⟨e, -⟩ := idx t
  have hv : V m c main_v0 = shapeCast S12288x16384 (m ((c : Thread nD τ).loc main_arg0)) shapeCasts_S12288x1x16384_S12288x16384 := by
    entry_read
    rfl
  show V m c main_v0 (((cfg0.win 0).blk t).view.emb (ix2 p k)) = _
  have he : ((cfg0.win 0).blk t).view.emb (ix2 p k) = (ix2 P k : S12288x16384.Idx) := by
    funext a
    apply Fin.ext
    match a with
    | ⟨0, _⟩ => show win0_0.index t 0 * 256 + 1 * p.val = P.val; rw [e, hP]; simp
    | ⟨1, _⟩ => show win0_0.index t 1 * 16384 + 1 * k.val = k.val; rw [e]; simp
  rw [he, hv]
  refine shapeCast_apply (s := S12288x1x16384) _ _ _ _ ?_
  rw [Shape.rowMajor_val_two, Shape.rowMajor_val_three]
  show (P.val * 1 + 0) * 16384 + k.val = P.val * 16384 + k.val
  omega

/-- The weight block at point `t` is the whole weight's columns `512 · (t / 48)` on. -/
theorem weight_at (c : Dev nD) (t : Fin cfg0.N) (r : Fin 16384) (j : Fin 512) (J : Fin 5120) (hJ : J.val = t.val / 48 * 512 + j.val) :
    wBlk m c t (ix2 r j) = wAt (F := F) (m ((c : Thread nD τ).loc main_arg1)) (m ((c : Thread nD τ).loc main_arg2))
      (m ((c : Thread nD τ).loc main_arg3)) (m ((c : Thread nD τ).loc main_arg4)) (m ((c : Thread nD τ).loc main_arg5)) r J := by
  show weightAt (F := F) (iblk m c 1 t) (iblk m c 2 t) (iblk m c 3 t) (iblk m c 4 t) (iblk m c 5 t) r j = _
  unfold weightAt wAt
  rw [qs_at m c t r _ ⟨J.val / 2, by omega⟩ (by show J.val / 2 = t.val / 48 * 256 + j.val / 2; omega), d_at m c t _ j J hJ,
    dmin_at m c t _ j J hJ, sc_at m c t _ j J hJ, mn_at m c t _ j J hJ, show J.val % 2 = j.val % 2 by omega]

end Run

/-- THE RESULT both programs compute, at the ideal values: entry (p, q) is the inner product of row p of the activations
    with column q of the dequantized weight. -/
def result (x : Vec Ideal S12288x1x16384 .bf16) (qs : Vec Ideal S16384x2560 .i8) (d dmin : Vec Ideal S64x5120 .f16)
    (sc mn : Vec Ideal S512x5120 .i8) : Vec Ideal S12288x5120 .bf16 :=
  fun i => (∑ k : Fin 16384, (x (ix3 (i 0) 0 k) : EReal) * (wAt qs d dmin sc mn k (i 1) : EReal) : EReal)

/-- The body's matmul at an entry, at the ideal values. -/
theorem pay2_apply (a : Vec Ideal S256x16384 .bf16) (w : Vec Ideal S16384x512 .bf16) (p : Fin 256) (q : Fin 512) :
    k0_pay2 a w (ix2 p q) = (∑ k : Fin 16384, (a (ix2 p k) : EReal) * (w (ix2 k q) : EReal) : EReal) := by
  unfold k0_pay2
  rw [shapeCast_self, show dot_S256x16384_S16384x512_S256x512_1_0_0_1_n_n = DotDims.plain 256 16384 512 from rfl]
  simp only [truncf, matmul, Ideal.truncf_def]
  rw [Ideal.matmul_plain_apply, show constant (F := Ideal) S256x512 .f32 0x00000000#32 (ix2 p q) = 0 from Ideal.ofBits_zero_f32, zero_add]

/-- THE KERNEL'S RESULT ARRAY is `result` of its arguments. -/
theorem kernel_eq (m : (ℓ : Loc nD τ sig) → Buf (Elt Ideal) ℓ) (c : Dev nD) :
    G6 m c = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨P, Q, rfl⟩ : ∃ (P : Fin 12288) (Q : Fin 5120), i = ix2 P Q := ⟨i 0, i 1, eq_ix2 i⟩
  have ht : pt6Of (ix2 P Q) = P.val / 256 + 48 * (Q.val / 512) := by
    show 1 * (P.val / 256 - 0) + 48 * (Q.val / 512 - 0) = _
    omega
  have hN : pt6Of (ix2 P Q) < cfg0.N := by rw [ht, show cfg0.N = 480 from N_0]; omega
  have hl : loc6Of (ix2 P Q) = ix2 (⟨P.val % 256, Nat.mod_lt _ (by decide)⟩ : Fin 256) (⟨Q.val % 512, Nat.mod_lt _ (by decide)⟩ : Fin 512) := by
    funext a
    match a with
    | ⟨0, _⟩ => rfl
    | ⟨1, _⟩ => rfl
  unfold G6
  rw [dif_pos hN, ← outsAt0_sweep m c _ hN, outs_eq m c ⟨pt6Of (ix2 P Q), hN⟩, hl, pay2_apply]
  unfold result
  show (∑ k : Fin 16384, (_ : EReal) : EReal) = (∑ k : Fin 16384, (_ : EReal) : EReal)
  refine Finset.sum_congr rfl fun k _ => ?_
  rw [x_at m c _ _ k P (by show P.val = pt6Of (ix2 P Q) % 48 * 256 + P.val % 256; rw [ht]; omega),
    weight_at m c _ k _ Q (by show Q.val = 48 * (pt6Of (ix2 P Q) / 48) / 48 * 512 + Q.val % 512; rw [ht]; omega)]

end Cert.Q4

end
-- ==== Proof.RefTerm.lean ====
/-
  THE REFERENCE'S RESULT AS A TERM, READ AT AN ENTRY. The reference computes the even columns of the weight from the low
  half of each byte and the odd ones from the high half, takes the product with each, and interleaves the two products.
  Each half weight at an entry is the dequantized weight at that column (`halfW_apply`), each product is the inner product
  over the rows of the weight (`dot_apply`), and the interleaved result is `result` (`outT_eq`).
-/
module

public import proofs.«01_k».proof.Proof.KernelValue
public import proofs.«01_k».proof.Proof.Gen.ReferenceIdeal.Frame

@[expose] public section

set_option maxRecDepth 16384

noncomputable section

namespace Cert.Q4

open Cert.ReferenceIdeal Cert.ReferenceIdeal.Gen Idealize.ShloMosaic Idealize.ShloMosaic.TcCoe Idealize.SL.Sem
open Idealize.ShloMosaic.ValueIdx
open scoped BigOperators

variable {F : FTy → Type} [FloatOps F]

/-- The low code of a byte, masked in 32 bits. -/
theorem low_code : ∀ b : BitVec 8, (b.setWidth 32) &&& 15#32 = (code b 0).signExtend 32 := by decide

/-- The high code of a byte, shifted in 32 bits. -/
theorem high_code : ∀ b : BitVec 8, (b.setWidth 32).sshiftRight' 4#32 = (code b 1).signExtend 32 := by decide

/-- The bytes as 32-bit words, split into super-blocks, blocks and rows. -/
def words (qs : Vec F S16384x2560 .i8) : Vec F S64x8x32x2560 .i32 :=
  extui 32 (shapeCast S64x8x32x2560 qs shapeCasts_S16384x2560_S64x8x32x2560) natLt_8_32

/-- The low codes as numbers. -/
def nibLo (qs : Vec F S16384x2560 .i8) : FVec F S64x8x32x2560 .f32 :=
  sitofp .f32 (andi (words (F := F) qs) (broadcastInDim S64x8x32x2560 ![] bcast_S_S64x8x32x2560 (constantI S_ 32 15#32)))

/-- The high codes as numbers. -/
def nibHi (qs : Vec F S16384x2560 .i8) : FVec F S64x8x32x2560 .f32 :=
  sitofp .f32 (Host.shrsi (words (F := F) qs) (broadcastInDim S64x8x32x2560 ![] bcast_S_S64x8x32x2560 (constantI S_ 32 4#32)))

/-- A super-block's factor times each block's small integer. -/
def scaleT (d32 : FVec F S64x5120 .f32) (sc : Vec F S512x5120 .i8) : FVec F S64x8x5120 .f32 :=
  mulf (broadcastInDim S64x8x5120 ![0, 1, 2] bcast_S64x1x5120_S64x8x5120_0_1_2
      (broadcastInDim S64x1x5120 ![0, 2] bcast_S64x5120_S64x1x5120_0_2 d32))
    (shapeCast S64x8x5120 (sitofp .f32 (extui 32 sc natLt_8_32) : FVec F S512x5120 .f32) shapeCasts_S512x5120_S64x8x5120)

/-- Every second column of the scales, spread over the rows of each block. -/
def spread (off : Nat) (h : S64x8x5120.SlicesBy ![0, 0, off] ![1, 1, 2] S64x8x2560) (s : FVec F S64x8x5120 .f32) :
    FVec F S64x8x32x2560 .f32 :=
  broadcastInDim S64x8x32x2560 ![0, 1, 2, 3] bcast_S64x8x1x2560_S64x8x32x2560_0_1_2_3
    (broadcastInDim S64x8x1x2560 ![0, 1, 3] bcast_S64x8x2560_S64x8x1x2560_0_1_3
      (Host.slice S64x8x2560 ![0, 0, off] ![1, 1, 2] s h))

/-- One half of the weight: the codes `q` times the scales `s`, less the minima `z`. -/
def halfW (off : Nat) (h : S64x8x5120.SlicesBy ![0, 0, off] ![1, 1, 2] S64x8x2560) (q : FVec F S64x8x32x2560 .f32)
    (s z : FVec F S64x8x5120 .f32) : FVec F S16384x2560 .bf16 :=
  shapeCast S16384x2560 (truncf .bf16 (subf (mulf q (spread off h s)) (spread off h z)) bitsLt_bf16_f32)
    shapeCasts_S64x8x32x2560_S16384x2560

/-- The products with the two halves, interleaved and rounded. -/
def outT (x : FVec F S12288x1x16384 .bf16) (w0 w1 : FVec F S16384x2560 .bf16) : FVec F S12288x5120 .bf16 :=
  truncf .bf16 (shapeCast S12288x5120 (concatenate S12288x1x2560x2 3
    [⟨S12288x1x2560x1, broadcastInDim S12288x1x2560x1 ![0, 1, 2] bcast_S12288x1x2560_S12288x1x2560x1_0_1_2
        (Host.dotGeneral dot_S12288x1x16384_S16384x2560_S12288x1x2560_2_0_01_1_n_n none x w0)⟩,
     ⟨S12288x1x2560x1, broadcastInDim S12288x1x2560x1 ![0, 1, 2] bcast_S12288x1x2560_S12288x1x2560x1_0_1_2
        (Host.dotGeneral dot_S12288x1x16384_S16384x2560_S12288x1x2560_2_0_01_1_n_n none x w1)⟩]
    concatenates_S12288x1x2560x1_S12288x1x2560x1_S12288x1x2560x2_d3) shapeCasts_S12288x1x2560x2_S12288x5120) bitsLt_bf16_f32

/-- The split bytes at an entry. -/
theorem words_apply (qs : Vec F S16384x2560 .i8) (r : Fin 16384) (c : Fin 2560) :
    words (F := F) qs (ix4 ⟨r.val / 256, by omega⟩ ⟨r.val / 32 % 8, by omega⟩ ⟨r.val % 32, by omega⟩ c)
      = (qs (ix2 r c) : BitVec 8).setWidth 32 := by
  unfold words
  show BitVec.setWidth 32 (shapeCast S64x8x32x2560 qs _ _) = _
  refine congrArg (BitVec.setWidth 32) (shapeCast_apply (s := S16384x2560) _ _ _ (ix2 r c) ?_)
  rw [Shape.rowMajor_val_two, Shape.rowMajor_val_four]
  show r.val * 2560 + c.val = ((r.val / 256 * 8 + r.val / 32 % 8) * 32 + r.val % 32) * 2560 + c.val
  omega

/-- The low codes at an entry. -/
theorem nibLo_apply (qs : Vec F S16384x2560 .i8) (r : Fin 16384) (c : Fin 2560) :
    nibLo (F := F) qs (ix4 ⟨r.val / 256, by omega⟩ ⟨r.val / 32 % 8, by omega⟩ ⟨r.val % 32, by omega⟩ c)
      = FloatOps.sitofp .f32 ((code (qs (ix2 r c)) 0).signExtend 32) := by
  refine congrArg (FloatOps.sitofp (F := F) .f32) ?_
  show (words (F := F) qs _ : BitVec 32) &&& 15#32 = _
  rw [words_apply]
  exact low_code _

/-- The high codes at an entry. -/
theorem nibHi_apply (qs : Vec F S16384x2560 .i8) (r : Fin 16384) (c : Fin 2560) :
    nibHi (F := F) qs (ix4 ⟨r.val / 256, by omega⟩ ⟨r.val / 32 % 8, by omega⟩ ⟨r.val % 32, by omega⟩ c)
      = FloatOps.sitofp .f32 ((code (qs (ix2 r c)) 1).signExtend 32) := by
  refine congrArg (FloatOps.sitofp (F := F) .f32) ?_
  show IntOp.shrsi .host (words (F := F) qs _ : BitVec 32) 4#32 = _
  rw [words_apply]
  unfold IntOp.shrsi
  rw [if_pos (by decide)]
  exact high_code _

/-- A scale at an entry. -/
theorem scaleT_apply (d32 : FVec F S64x5120 .f32) (sc : Vec F S512x5120 .i8) (r : Fin 16384) (j : Fin 5120) :
    scaleT (F := F) d32 sc (ix3 ⟨r.val / 256, by omega⟩ ⟨r.val / 32 % 8, by omega⟩ j)
      = FloatOps.mulf (d32 (ix2 ⟨r.val / 256, by omega⟩ j))
          (FloatOps.sitofp .f32 ((sc (ix2 ⟨r.val / 32, by omega⟩ j) : BitVec 8).setWidth 32)) := by
  unfold scaleT
  show FloatOps.mulf (broadcastInDim S64x8x5120 _ _ _ _) (shapeCast S64x8x5120 _ _ _) = _
  congr 1
  · rw [broadcastInDim_apply _ _ _ _ (ix3 ⟨r.val / 256, by omega⟩ 0 j : S64x1x5120.Idx) (fun a =>
      match a with | ⟨0, _⟩ => rfl | ⟨1, _⟩ => rfl | ⟨2, _⟩ => rfl)]
    exact broadcastInDim_apply _ _ _ _ (ix2 ⟨r.val / 256, by omega⟩ j : S64x5120.Idx) (fun a =>
      match a with | ⟨0, _⟩ => rfl | ⟨1, _⟩ => rfl)
  · refine shapeCast_apply (s := S512x5120) _ _ _ (ix2 ⟨r.val / 32, by omega⟩ j) ?_
    rw [Shape.rowMajor_val_two, Shape.rowMajor_val_three]
    show r.val / 32 * 5120 + j.val = (r.val / 256 * 8 + r.val / 32 % 8) * 5120 + j.val
    omega

/-- The spread scales at an entry. -/
theorem spread_apply (off : Nat) (h : S64x8x5120.SlicesBy ![0, 0, off] ![1, 1, 2] S64x8x2560) (s : FVec F S64x8x5120 .f32)
    (a : Fin 64) (b : Fin 8) (p : Fin 32) (c : Fin 2560) (j : Fin 5120) (hj : j.val = off + 2 * c.val) :
    spread (F := F) off h s (ix4 a b p c) = s (ix3 a b j) := by
  unfold spread
  rw [broadcastInDim_apply _ _ _ _ (ix4 a b 0 c : S64x8x1x2560.Idx) (fun a =>
      match a with | ⟨0, _⟩ => rfl | ⟨1, _⟩ => rfl | ⟨2, _⟩ => rfl | ⟨3, _⟩ => rfl),
    broadcastInDim_apply _ _ _ _ (ix3 a b c : S64x8x2560.Idx) (fun a =>
      match a with | ⟨0, _⟩ => rfl | ⟨1, _⟩ => rfl | ⟨2, _⟩ => rfl)]
  unfold Host.slice
  refine congrArg s (funext fun x => Fin.ext ?_)
  match x with
  | ⟨0, _⟩ => show 0 + 1 * a.val = a.val; omega
  | ⟨1, _⟩ => show 0 + 1 * b.val = b.val; omega
  | ⟨2, _⟩ => exact hj.symm

/-- A half weight at an entry is the dequantized weight at that column. -/
theorem halfW_apply (off : Nat) (hoff : off < 2) (h : S64x8x5120.SlicesBy ![0, 0, off] ![1, 1, 2] S64x8x2560)
    (q : FVec F S64x8x32x2560 .f32) (qs : Vec F S16384x2560 .i8) (d dmin : Vec F S64x5120 .f16)
    (sc mn : Vec F S512x5120 .i8)
    (hq : ∀ (r : Fin 16384) (c : Fin 2560), q (ix4 ⟨r.val / 256, by omega⟩ ⟨r.val / 32 % 8, by omega⟩ ⟨r.val % 32, by omega⟩ c)
      = FloatOps.sitofp .f32 ((code (qs (ix2 r c)) off).signExtend 32))
    (r : Fin 16384) (c : Fin 2560) (j : Fin 5120) (hj : j.val = off + 2 * c.val) :
    halfW (F := F) off h q (scaleT (extf .f32 d bitsLt_f16_f32) sc) (scaleT (extf .f32 dmin bitsLt_f16_f32) mn) (ix2 r c)
      = wAt (F := F) qs d dmin sc mn r j := by
  unfold halfW
  rw [shapeCast_apply (s := S64x8x32x2560) _ _ _
    (ix4 ⟨r.val / 256, by omega⟩ ⟨r.val / 32 % 8, by omega⟩ ⟨r.val % 32, by omega⟩ c) (by
      rw [Shape.rowMajor_val_two, Shape.rowMajor_val_four]
      show ((r.val / 256 * 8 + r.val / 32 % 8) * 32 + r.val % 32) * 2560 + c.val = r.val * 2560 + c.val
      omega)]
  show FloatOps.truncf .bf16 _ (FloatOps.subf (FloatOps.mulf (q _) (spread off h _ _)) (spread off h _ _)) = _
  rw [hq r c, spread_apply off h _ _ _ _ c j hj, spread_apply off h _ _ _ _ c j hj, scaleT_apply, scaleT_apply]
  unfold wAt deq
  have e1 : (⟨j.val / 2, by omega⟩ : Fin 2560) = c := Fin.ext (by show j.val / 2 = c.val; omega)
  rw [e1, show j.val % 2 = off by omega]
  rfl

/-- The reference's product at an entry, at the ideal values. -/
theorem dot_apply (x : FVec Ideal S12288x1x16384 .bf16) (w : FVec Ideal S16384x2560 .bf16) (p : Fin 12288) (c : Fin 2560) :
    Host.dotGeneral dot_S12288x1x16384_S16384x2560_S12288x1x2560_2_0_01_1_n_n none x w (ix3 p 0 c)
      = (∑ k : Fin 16384, (x (ix3 p 0 k) : EReal) * (w (ix2 k c) : EReal) : EReal) := by
  simp only [Host.dotGeneral]
  have hr : dot_S12288x1x16384_S16384x2560_S12288x1x2560_2_0_01_1_n_n.contr.rank = 1 := rfl
  have hs : dot_S12288x1x16384_S16384x2560_S12288x1x2560_2_0_01_1_n_n.contr.size ⟨0, by omega⟩ = 16384 := rfl
  rw [Ideal.dotGeneral_apply, ← Equiv.sum_comp (contrEquiv1 _ 16384 hr hs).symm]
  refine Finset.sum_congr rfl fun k _ => ?_
  have hk := contrEquiv1_symm_val _ 16384 hr hs k
  congr 1
  · refine congrArg x (funext fun a => Fin.ext ?_)
    match a with
    | ⟨0, _⟩ => rfl
    | ⟨1, _⟩ => rfl
    | ⟨2, _⟩ => exact hk
  · refine congrArg w (funext fun a => Fin.ext ?_)
    match a with
    | ⟨0, _⟩ => exact hk
    | ⟨1, _⟩ => rfl

/-- The result of the two half weights of the whole weight is `result`. -/
theorem outT_eq (x : FVec Ideal S12288x1x16384 .bf16) (w0 w1 : FVec Ideal S16384x2560 .bf16)
    (qs : Vec Ideal S16384x2560 .i8) (d dmin : Vec Ideal S64x5120 .f16) (sc mn : Vec Ideal S512x5120 .i8)
    (h0 : ∀ (r : Fin 16384) (c : Fin 2560) (j : Fin 5120), j.val = 0 + 2 * c.val → w0 (ix2 r c) = wAt (F := Ideal) qs d dmin sc mn r j)
    (h1 : ∀ (r : Fin 16384) (c : Fin 2560) (j : Fin 5120), j.val = 1 + 2 * c.val → w1 (ix2 r c) = wAt (F := Ideal) qs d dmin sc mn r j) :
    outT (F := Ideal) x w0 w1 = result x qs d dmin sc mn := by
  funext i
  obtain ⟨p, q, rfl⟩ : ∃ (p : Fin 12288) (q : Fin 5120), i = ix2 p q := ⟨i 0, i 1, eq_ix2 i⟩
  unfold outT
  simp only [truncf, Ideal.truncf_def]
  rw [shapeCast_apply (s := S12288x1x2560x2) _ _ _
    (ix4 p 0 ⟨q.val / 2, by omega⟩ ⟨q.val % 2, by omega⟩) (by
      rw [Shape.rowMajor_val_two, Shape.rowMajor_val_four]
      show ((p.val * 1 + 0) * 2560 + q.val / 2) * 2 + q.val % 2 = p.val * 5120 + q.val
      omega)]
  rcases Nat.mod_two_eq_zero_or_one q.val with hq | hq
  · rw [concatenate_pair_apply_left (t := S12288x1x2560x2) (s₁ := S12288x1x2560x1) (s₂ := S12288x1x2560x1) 3 _ _ _
        (ix4 p 0 ⟨q.val / 2, by omega⟩ ⟨q.val % 2, by omega⟩) rfl (ix4 p 0 ⟨q.val / 2, by omega⟩ 0 : S12288x1x2560x1.Idx) (fun b =>
        match b with | ⟨0, _⟩ => rfl | ⟨1, _⟩ => rfl | ⟨2, _⟩ => rfl | ⟨3, _⟩ => hq.symm),
      broadcastInDim_apply _ _ _ _ (ix3 p 0 ⟨q.val / 2, by omega⟩ : S12288x1x2560.Idx) (fun a =>
        match a with | ⟨0, _⟩ => rfl | ⟨1, _⟩ => rfl | ⟨2, _⟩ => rfl), dot_apply]
    show (∑ k : Fin 16384, (_ : EReal) : EReal) = (∑ k : Fin 16384, (_ : EReal) : EReal)
    refine Finset.sum_congr rfl fun k _ => ?_
    rw [h0 k _ q (by show q.val = 0 + 2 * (q.val / 2); omega)]
  · rw [concatenate_pair_apply_right (t := S12288x1x2560x2) (s₁ := S12288x1x2560x1) (s₂ := S12288x1x2560x1) 3 _ _ _
        (ix4 p 0 ⟨q.val / 2, by omega⟩ ⟨q.val % 2, by omega⟩) rfl rfl (ix4 p 0 ⟨q.val / 2, by omega⟩ 0 : S12288x1x2560x1.Idx) (fun b hb =>
        match b, hb with
        | ⟨0, _⟩, _ => rfl | ⟨1, _⟩, _ => rfl | ⟨2, _⟩, _ => rfl | ⟨3, _⟩, hb => absurd rfl hb)
        (by show 0 + 1 = q.val % 2; omega),
      broadcastInDim_apply _ _ _ _ (ix3 p 0 ⟨q.val / 2, by omega⟩ : S12288x1x2560.Idx) (fun a =>
        match a with | ⟨0, _⟩ => rfl | ⟨1, _⟩ => rfl | ⟨2, _⟩ => rfl), dot_apply]
    show (∑ k : Fin 16384, (_ : EReal) : EReal) = (∑ k : Fin 16384, (_ : EReal) : EReal)
    refine Finset.sum_congr rfl fun k _ => ?_
    rw [h1 k _ q (by show q.val = 1 + 2 * (q.val / 2); omega)]

/-- The reference's whole term, from its arguments. -/
def refOut (x : FVec F S12288x1x16384 .bf16) (qs : Vec F S16384x2560 .i8) (d dmin : Vec F S64x5120 .f16)
    (sc mn : Vec F S512x5120 .i8) : FVec F S12288x5120 .bf16 :=
  outT (F := F) x
    (halfW 0 slicesBy_S64x8x5120_S64x8x2560_0s1_0s1_0s2 (nibLo (F := F) qs) (scaleT (extf .f32 d bitsLt_f16_f32) sc)
      (scaleT (extf .f32 dmin bitsLt_f16_f32) mn))
    (halfW 1 slicesBy_S64x8x5120_S64x8x2560_0s1_0s1_1s2 (nibHi (F := F) qs) (scaleT (extf .f32 d bitsLt_f16_f32) sc)
      (scaleT (extf .f32 dmin bitsLt_f16_f32) mn))

/-- THE REFERENCE'S TERM IS `result` of its arguments, at the ideal values. -/
theorem refOut_eq (x : FVec Ideal S12288x1x16384 .bf16) (qs : Vec Ideal S16384x2560 .i8) (d dmin : Vec Ideal S64x5120 .f16)
    (sc mn : Vec Ideal S512x5120 .i8) : refOut (F := Ideal) x qs d dmin sc mn = result x qs d dmin sc mn :=
  outT_eq x _ _ qs d dmin sc mn
    (fun r c j hj => halfW_apply 0 (by decide) _ _ qs d dmin sc mn (fun r c => nibLo_apply qs r c) r c j hj)
    (fun r c j hj => halfW_apply 1 (by decide) _ _ qs d dmin sc mn (fun r c => nibHi_apply qs r c) r c j hj)

end Cert.Q4

end
-- ==== Proof.RefRun.lean ====
/-
  THE REFERENCE'S RUN. The operations before the region leave the codes, the region widens the two super-block factors,
  and the operations after it compute the result from these and the arguments (`tail_eq`). So the reference ends with its
  result at `result` of its arguments (`ref_run`).
-/
module

public import proofs.«01_k».proof.Proof.RefTerm
public import Idealize.ShloMosaic.Lib.StableHlo.RunRead
public import Idealize.ShloMosaic.Lib.Pipeline.ValueKit.Geometry

@[expose] public section

set_option maxRecDepth 16384

noncomputable section

namespace Cert.Q4

open Cert.ReferenceIdeal Cert.ReferenceIdeal.Gen Idealize.ShloMosaic Idealize.ShloMosaic.TcCoe Idealize.SL.Sem
open Idealize.ShloMosaic.ValueIdx

variable {F : FTy → Type} [FloatOps F]

/-- The operations before the region leave the low codes of the bytes. -/
theorem head_lo (V : Valuation τ sig (Elt F)) : StableHlo.after (hostOps0 (F := F)) V main_v4 = nibLo (F := F) (V main_arg1) := by
  after_reads_simp
  rfl

/-- The operations before the region leave the high codes of the bytes. -/
theorem head_hi (V : Valuation τ sig (Elt F)) : StableHlo.after (hostOps0 (F := F)) V main_v7 = nibHi (F := F) (V main_arg1) := by
  after_reads_simp
  rfl

/-- The operations after the region leave the result, from the codes, the widened factors and the arguments. -/
theorem tail_eq (V : Valuation τ sig (Elt F)) : StableHlo.after (hostOps1 (F := F)) V main_v47
    = outT (F := F) (V main_arg0)
      (halfW 0 slicesBy_S64x8x5120_S64x8x2560_0s1_0s1_0s2 (V main_v4) (scaleT (V main_v8_0) (V main_arg4))
        (scaleT (V main_v8_1) (V main_arg5)))
      (halfW 1 slicesBy_S64x8x5120_S64x8x2560_0s1_0s1_1s2 (V main_v7) (scaleT (V main_v8_0) (V main_arg4))
        (scaleT (V main_v8_1) (V main_arg5))) := by
  after_reads_simp
  rfl

section Run

variable (m : (ℓ : Loc nD τ sig) → Buf (Elt F) ℓ)

/-- The region's first input block is the whole first factor. -/
theorem iblk0 (c : Dev nD) (t : Fin cfg0.N) : iblk m c 0 t = m ((c : Thread nD τ).loc main_arg2) := by
  funext y
  refine (congrFun (V_main_arg2 m c) _).trans (congrArg _ (funext fun a => Fin.ext ?_))
  match a with
  | ⟨0, _⟩ => show 0 + 1 * (y 0).val = (y 0).val; omega
  | ⟨1, _⟩ => show 0 + 1 * (y 1).val = (y 1).val; omega

/-- The region's second input block is the whole second factor. -/
theorem iblk1 (c : Dev nD) (t : Fin cfg0.N) : iblk m c 1 t = m ((c : Thread nD τ).loc main_arg3) := by
  funext y
  refine (congrFun (V_main_arg3 m c) _).trans (congrArg _ (funext fun a => Fin.ext ?_))
  match a with
  | ⟨0, _⟩ => show 0 + 1 * (y 0).val = (y 0).val; omega
  | ⟨1, _⟩ => show 0 + 1 * (y 1).val = (y 1).val; omega

/-- The region leaves the first factor widened. -/
theorem wide0 (c : Dev nD) : (dats m 0 c).arrAt 2 cfg0.N
    = (extf .f32 (m ((c : Thread nD τ).loc main_arg2) : FVec F S64x5120 .f16) bitsLt_f16_f32 : FVec F S64x5120 .f32) := by
  refine (dats m 0 c).arrAt_eq_of_covers 2 _ (by decide +kernel) fun t hf y => ?_
  rw [after0_2, iblk0]
  unfold out0_2
  blk_simp
  rw [View.canon_unit_zero hz, View.ld_unit_zero hz]
  refine congrArg (extf .f32 (m ((c : Thread nD τ).loc main_arg2) : FVec F S64x5120 .f16) bitsLt_f16_f32) (funext fun a => Fin.ext ?_)
  match a with
  | ⟨0, _⟩ => show (y 0).val = 0 + 1 * (y 0).val; omega
  | ⟨1, _⟩ => show (y 1).val = 0 + 1 * (y 1).val; omega

/-- The region leaves the second factor widened. -/
theorem wide1 (c : Dev nD) : (dats m 0 c).arrAt 3 cfg0.N
    = (extf .f32 (m ((c : Thread nD τ).loc main_arg3) : FVec F S64x5120 .f16) bitsLt_f16_f32 : FVec F S64x5120 .f32) := by
  refine (dats m 0 c).arrAt_eq_of_covers 3 _ (by decide +kernel) fun t hf y => ?_
  rw [after0_3, iblk1]
  unfold out0_3
  blk_simp
  rw [View.canon_unit_zero hz, View.ld_unit_zero hz]
  refine congrArg (extf .f32 (m ((c : Thread nD τ).loc main_arg3) : FVec F S64x5120 .f16) bitsLt_f16_f32) (funext fun a => Fin.ext ?_)
  match a with
  | ⟨0, _⟩ => show (y 0).val = 0 + 1 * (y 0).val; omega
  | ⟨1, _⟩ => show (y 1).val = 0 + 1 * (y 1).val; omega

/-- The region's four arrays are different buffers. -/
theorem arrs_inj : Function.Injective (Pipeline.arrRef spec0) := by decide

/-- THE REFERENCE'S LAST CONTENTS of its result buffer are its whole term. -/
theorem ref_eq (c : Dev nD) : Pipeline.afterTail₀ cfgs (dats m) 0 (V0 m) [hostOps1] c main_v47
    = refOut (F := F) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  unfold Pipeline.afterTail₀
  rw [show List.flatten [hostOps1 (F := F)] = hostOps1 from List.append_nil _, tail_eq]
  have hne : ∀ b : Ref sig .tc, (∀ w, Pipeline.arrRef spec0 w ≠ b) →
      Pipeline.withArrays (cfgs 0).spec c (V0 m c) (fun w => (dats m 0 c).arrAt w (cfgs 0).N) (Proc.devRef .tc b)
        = V0 m c (Proc.devRef .tc b) :=
    fun b hb => Pipeline.withArrays_of_ne _ c (V0 m c) _ b hb
  have h0 : V0 m c (Proc.devRef .tc main_arg0) = m ((c : Thread nD τ).loc main_arg0) := V_main_arg0 m c
  have h4 : V0 m c (Proc.devRef .tc main_arg4) = m ((c : Thread nD τ).loc main_arg4) := V_main_arg4 m c
  have h5 : V0 m c (Proc.devRef .tc main_arg5) = m ((c : Thread nD τ).loc main_arg5) := V_main_arg5 m c
  have hlo : V0 m c (Proc.devRef .tc main_v4) = nibLo (F := F) (m ((c : Thread nD τ).loc main_arg1)) := by
    show StableHlo.after (List.flatten [hostOps0]) _ _ = _
    rw [show List.flatten [hostOps0 (F := F)] = hostOps0 from List.append_nil _, head_lo]
  have hhi : V0 m c (Proc.devRef .tc main_v7) = nibHi (F := F) (m ((c : Thread nD τ).loc main_arg1)) := by
    show StableHlo.after (List.flatten [hostOps0]) _ _ = _
    rw [show List.flatten [hostOps0 (F := F)] = hostOps0 from List.append_nil _, head_hi]
  have w0 := (Pipeline.withArrays_arr spec0 arrs_inj c (V0 m c) (fun w => (dats m 0 c).arrAt w (cfgs 0).N) 2).trans (wide0 m c)
  have w1 := (Pipeline.withArrays_arr spec0 arrs_inj c (V0 m c) (fun w => (dats m 0 c).arrAt w (cfgs 0).N) 3).trans (wide1 m c)
  rw [hne main_arg0 (by decide), hne main_arg4 (by decide), hne main_arg5 (by decide), hne main_v4 (by decide),
    hne main_v7 (by decide), h0, h4, h5, hlo, hhi]
  unfold refOut
  rw [← w0, ← w1]

end Run

/-- THE REFERENCE'S RUN: from any memory, every fair execution ends with the result at `result` of the arguments, and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
        = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h c).2 main_v47 (Pipeline.mem_restRefs_of main_v47 (by decide) (by decide))).trans
        ((ref_eq m c).trans (refOut_eq _ _ _ _ _ _)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.Q4

end
-- ==== Proof.lean ====
/-
  THE CERTIFICATE. The three frames are the generated ones; the two programs' results agree because each is `result` of the
  arguments (Proof/KernelValue.lean for the kernel, Proof/RefRun.lean for the reference).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.RefRun

@[expose] public section

open Idealize.ShloMosaic Idealize.ShloMosaic.TcCoe Idealize.SL.Sem

/-- At the ideal values, from memories that agree on the arguments, the kernel and the reference end with equal results:
    both are the product of the activations with the dequantized weight. -/
theorem Cert.Q4.algebraic : Cert.algebraic_KernelIdeal_ReferenceIdeal := by
  intro m g m' g' _ hargs
  refine ⟨fun c => Cert.Q4.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run _ _ _).mono (fun r h c => ⟨(h c).1.trans (Cert.Q4.kernel_eq m c), (h c).2⟩) (Cert.KernelIdeal.Value.run m g)
  · refine (θ_run _ _ _).mono (fun r h c => ⟨(h c).1.trans ?_, (h c).2⟩) (Cert.Q4.ref_run m' g')
    obtain ⟨e0, e1, e2, e3, e4, e5⟩ := hargs c
    rw [e0, e1, e2, e3, e4, e5]

/-- Every claim of the certificate. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Q4.algebraic⟩
